-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_vocab : Cert.Pre_in_vocab.Facts] (m : (ℓ : Loc Cert.Reference.nD Cert.Reference.τ Cert.Reference.sig) → Buf (Elt Bits) ℓ) : Prop :=
  ∀ c : Dev Cert.Reference.nD,
    (Cert.Pre_in_vocab.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_vocab : Cert.Pre_in_vocab.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal) (hPre_in_vocab := hPre_in_vocab)
    ∧ quiescent_Reference (hReference := hReference) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
    ∧ bitexact_Kernel_Reference (hKernel := hKernel) (hReference := hReference) (hPre_in_vocab := hPre_in_vocab)
-- ==== Pre_in_vocab.lean ====
abbrev S4096x200 : Shape := ⟨2, ![4096, 200]⟩
abbrev S1000000x64 : Shape := ⟨2, ![1000000, 64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000000x64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000000x64 : Shape := ⟨2, ![1000000, 64]⟩
abbrev S_ : Shape := ⟨0, ![]⟩
abbrev S1000000x128 : Shape := ⟨2, ![1000000, 128]⟩
abbrev S6400x128 : Shape := ⟨2, ![6400, 128]⟩
abbrev S819200x128 : Shape := ⟨2, ![819200, 128]⟩
abbrev S2x2x128 : Shape := ⟨3, ![2, 2, 128]⟩
abbrev S2 : Shape := ⟨1, ![2]⟩
abbrev S2x256x128 : Shape := ⟨3, ![2, 256, 128]⟩
abbrev S1x2x128 : Shape := ⟨3, ![1, 2, 128]⟩
abbrev S2x128 : Shape := ⟨2, ![2, 128]⟩
abbrev S1 : Shape := ⟨1, ![1]⟩
abbrev S1x256x128 : Shape := ⟨3, ![1, 256, 128]⟩
abbrev S256x128 : Shape := ⟨2, ![256, 128]⟩
abbrev S128x128 : Shape := ⟨2, ![128, 128]⟩
abbrev S1x128 : Shape := ⟨2, ![1, 128]⟩
abbrev S128 : Shape := ⟨1, ![128]⟩
abbrev S819200x64 : Shape := ⟨2, ![819200, 64]⟩
abbrev S4096x200x64 : Shape := ⟨3, ![4096, 200, 64]⟩

abbrev nBuf : Table → Nat
  | .hbm => 9
  | .local .scVector .vmem => 2
  | _ => 0

abbrev bufTy : (tb : Table) → Fin (nBuf tb) → BufTy
  | .hbm, ⟨0, _⟩ => ⟨S4096x200, .i32⟩
  | .hbm, ⟨1, _⟩ => ⟨S1000000x64, .f32⟩
  | .hbm, ⟨2, _⟩ => ⟨S_, .i32⟩
  | .hbm, ⟨3, _⟩ => ⟨S_, .f32⟩
  | .hbm, ⟨4, _⟩ => ⟨S1000000x128, .f32⟩
  | .hbm, ⟨5, _⟩ => ⟨S6400x128, .i32⟩
  | .hbm, ⟨6, _⟩ => ⟨S819200x128, .f32⟩
  | .hbm, ⟨7, _⟩ => ⟨S819200x64, .f32⟩
  | .hbm, ⟨8, _⟩ => ⟨S4096x200x64, .f32⟩
  | .local .scVector .vmem, ⟨0, _⟩ => ⟨S2x2x128, .i32⟩
  | .local .scVector .vmem, ⟨1, _⟩ => ⟨S2x256x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c2_i32_14_r0 : BitVec 32 := 2#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v7_r0 : BitVec 32 := Scalar.addi c0_i32_1_r0 v4
  let v22_r0 : BitVec 32 := Scalar.muli c2_i32_14_r0 v7_r0
  let c0_i32_17_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c100_i32_28_r0 : BitVec 32 := 100#32
  let v32_r0 : BitVec 32 := Scalar.addi c0_i32_27_r0 c100_i32_28_r0
  let c1_i32_29_r0 : BitVec 32 := 1#32
  ⟨c0_i32_27_r0, v32_r0, c1_i32_29_r0⟩
def k0_off4 (arg6_r0 : BitVec 32) : Fin 3 → Nat :=
  let c2_i32_98_r0 : BitVec 32 := 2#32
  let v144_r0 : BitVec 32 := Scalar.remui arg6_r0 c2_i32_98_r0
  let c0_i32_100_r0 : BitVec 32 := 0#32
  let c0_i32_101_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c100_i32_62_r0 : BitVec 32 := 100#32
  let v74_r0 : BitVec 1 := Scalar.cmpi .eq v73_r0 c100_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c99_i32_68_r0 : BitVec 32 := 99#32
  let v83_r0 : BitVec 1 := Scalar.cmpi .sge arg5_r0 c99_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c2_i32_99_r0 : BitVec 32 := 2#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c100_i32_62_r0 : BitVec 32 := 100#32
  let v74_r0 : BitVec 1 := Scalar.cmpi .eq v73_r0 c100_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v76_r0 : BitVec 32 := Scalar.addi v75_r0 v4
  let v145_r0 : BitVec 32 := Scalar.muli c2_i32_99_r0 v76_r0
  let c0_i32_102_r0 : BitVec 32 := 0#32
  ![v145_r0.toNat, 0]
def k0_off6 (arg6_r0 : BitVec 32) : Fin 1 → Nat :=
  let c2_i32_98_r0 : BitVec 32 := 2#32
  let v144_r0 : BitVec 32 := Scalar.remui arg6_r0 c2_i32_98_r0
  ![v144_r0.toNat]
def k0_off7 (arg7_r0 : BitVec 32) : Fin 3 → Nat :=
  let c2_i32_99_r0 : BitVec 32 := 2#32
  let v145_r0 : BitVec 32 := Scalar.remui arg7_r0 c2_i32_99_r0
  let c0_i32_100_r0 : BitVec 32 := 0#32
  let c0_i32_101_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c99_i32_59_r0 : BitVec 32 := 99#32
  let v70_r0 : BitVec 32 := Scalar.select v69_r0 c99_i32_59_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c2_i32_98_r0 : BitVec 32 := 2#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let v144_r0 : BitVec 32 := Scalar.muli c2_i32_98_r0 v66_r0
  let c0_i32_102_r0 : BitVec 32 := 0#32
  ![v144_r0.toNat, 0]
def k0_off9 (arg7_r0 : BitVec 32) : Fin 1 → Nat :=
  let c2_i32_99_r0 : BitVec 32 := 2#32
  let v145_r0 : BitVec 32 := Scalar.remui arg7_r0 c2_i32_99_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_103_r1 : BitVec 32 := 0#32
  let c0_i32_104_r1 : BitVec 32 := 0#32
  ![v108_r0.toNat, 0, 0]

def k0_chk3 (arg7_r0 : BitVec 32) : Prop :=
  (∀ a, (k0_off11 arg7_r0) a + S1x2x128.size a ≤ S2x2x128.size a)
theorem k0_off11_inb : ∀ (arg7_r0 : BitVec 32) (k0_hw3 : k0_chk3 arg7_r0), ∀ a, (k0_off11 arg7_r0) a + S1x2x128.size a ≤ S2x2x128.size a := fun arg7_r0 k0_hw3 => k0_hw3

def k0_off12 (arg8_r0 : BitVec 32) : Fin 3 → Nat :=
  let c2_i32_98_r0 : BitVec 32 := 2#32
  let v144_r0 : BitVec 32 := Scalar.remui arg8_r0 c2_i32_98_r0
  let c0_i32_100_r0 : BitVec 32 := 0#32
  let c0_i32_101_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c100_i32_62_r0 : BitVec 32 := 100#32
  let v74_r0 : BitVec 1 := Scalar.cmpi .eq v73_r0 c100_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c99_i32_55_r0 : BitVec 32 := 99#32
  let v65_r0 : BitVec 1 := Scalar.cmpi .eq arg5_r0 c99_i32_55_r0
  let v116_r0 : BitVec 1 := Scalar.ori v115_r0 v65_r0
  let v117_r0 : BitVec 32 := Scalar.extui v116_r0
  let c0_i32_83_r0 : BitVec 32 := 0#32
  let v118_r0 : BitVec 1 := Scalar.cmpi .ne v117_r0 c0_i32_83_r0
  v118_r0

def k0_off13 (i : grid0.Coords) (arg10_r0 : BitVec 32) : Fin 2 → Nat :=
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let v145_r0 : BitVec 32 := Scalar.muli c256_i32_99_r0 v66_r0
  let c0_i32_102_r0 : BitVec 32 := 0#32
  ![v145_r0.toNat, 0]
def k0_off14 (arg8_r0 : BitVec 32) : Fin 1 → Nat :=
  let c2_i32_98_r0 : BitVec 32 := 2#32
  let v144_r0 : BitVec 32 := Scalar.remui arg8_r0 c2_i32_98_r0
  ![v144_r0.toNat]
def k0_off15 (arg9_r0 : BitVec 32) : Fin 3 → Nat :=
  let c2_i32_98_r0 : BitVec 32 := 2#32
  let v144_r0 : BitVec 32 := Scalar.remui arg9_r0 c2_i32_98_r0
  let c0_i32_100_r0 : BitVec 32 := 0#32
  let c0_i32_101_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c99_i32_59_r0 : BitVec 32 := 99#32
  let v70_r0 : BitVec 32 := Scalar.select v69_r0 c99_i32_59_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let true_89_r0 : BitVec 1 := 1#1
  let v129_r0 : BitVec 1 := Scalar.xori v64_r0 true_89_r0
  let v130_r0 : BitVec 1 := Scalar.andi v128_r0 v129_r0
  let v131_r0 : BitVec 32 := Scalar.extui v130_r0
  let c0_i32_90_r0 : BitVec 32 := 0#32
  let v132_r0 : BitVec 1 := Scalar.cmpi .ne v131_r0 c0_i32_90_r0
  v132_r0

def k0_off16 (i : grid0.Coords) (arg10_r0 : BitVec 32) : Fin 2 → Nat :=
  let c256_i32_99_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c99_i32_59_r0 : BitVec 32 := 99#32
  let v70_r0 : BitVec 32 := Scalar.select v69_r0 c99_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v71_r0 : BitVec 32 := Scalar.addi v70_r0 v4
  let v145_r0 : BitVec 32 := Scalar.muli c256_i32_99_r0 v71_r0
  let c0_i32_102_r0 : BitVec 32 := 0#32
  ![v145_r0.toNat, 0]
def k0_off17 (arg9_r0 : BitVec 32) : Fin 1 → Nat :=
  let c2_i32_98_r0 : BitVec 32 := 2#32
  let v144_r0 : BitVec 32 := Scalar.remui arg9_r0 c2_i32_98_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x2x128.size a ≤ S2x2x128.size a) ∧
  (∀ (k0_h1 : k0_cond1 i k0_t1 arg10_r0 = 1#1), ∀ a, (k0_off5 i arg10_r0) a + S2x128.size a ≤ S6400x128.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x2x128.size a ≤ S2x2x128.size a) ∧
  (∀ (k0_h2 : k0_cond2 i k0_t1 arg10_r0 = 1#1), ∀ a, (k0_off8 i arg10_r0) a + S2x128.size a ≤ S6400x128.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S819200x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S819200x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x2x128.size a ≤ S2x2x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S2x128.size a ≤ S6400x128.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x2x128.size a ≤ S2x2x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S2x128.size a ≤ S6400x128.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S819200x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S819200x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_r0 : BitVec 32 := 256#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c99_i32_34_r0 : BitVec 32 := 99#32
  let v37_r0 : BitVec 32 := Scalar.select v36_r0 c99_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c100_i32 : BitVec 32 := 100#32
  let v4 : BitVec 32 := Scalar.muli v3 c100_i32
  let v38_r0 : BitVec 32 := Scalar.addi v37_r0 v4
  let v55_r0 : BitVec 32 := Scalar.muli c256_i32_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S819200x128.size a)
theorem k0_off19_inb : ∀ (i : grid0.Coords) (v33_4_r0 : BitVec 32) (k0_hw5 : k0_chk5 i v33_4_r0), ∀ a, (k0_off19 i v33_4_r0) a + S256x128.size a ≤ S819200x128.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S1000000x64 : Shape := ⟨2, ![1000000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.GatherBatch.lean ====
/-
  Indirect gathers issued on ONE DMA semaphore as members of a counted batch.

  A batch (`Transfers.Batch`) collects equal transfers on one cell and hands all deliveries out at the wait that
  drains it. An indirect gather is one transfer per entry of its list, so a gather of `o` rows is `o` consecutive
  members of a batch whose unit is one row's credit; two gathers in flight at once are the two halves of one batch.
-/
module

public import Idealize.ShloMosaic.Lib.Batch
public import Idealize.ShloMosaic.Lib.SparseCore.Stream
public import Idealize.ShloMosaic.Lib.Tactic

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The members a batch still has to issue from `j` on, cut after the next `o`. -/
theorem pending_cut {n : ℕ} (j o : ℕ) (h : j + o ≤ n) (Φ : Fin n → sProp 𝕄) :
    bigSep (pending j) Φ
      = iprop(bigSep Finset.univ (fun k : Fin o => Φ ⟨j + k.val, by omega⟩) ∗ bigSep (pending (j + o)) Φ) := by
  have hinj : Function.Injective (fun k : Fin o => (⟨j + k.val, by omega⟩ : Fin n)) := fun x y hxy => by
    have := congrArg Fin.val hxy; ext; simp at this; omega
  have hset : pending (n := n) j = Finset.univ.map ⟨_, hinj⟩ ∪ pending (j + o) := by
    ext t
    simp only [pending, Finset.mem_filter, Finset.mem_univ, true_and, Finset.mem_union, Finset.mem_map, Function.Embedding.coeFn_mk]
    constructor
    · intro ht
      by_cases h' : j + o ≤ t.val
      · exact Or.inr h'
      · exact Or.inl ⟨⟨t.val - j, by omega⟩, by ext; simp; omega⟩
    · rintro (⟨k, rfl⟩ | h')
      · simp
      · omega
  have hd : Disjoint (Finset.univ.map ⟨_, hinj⟩) (pending (n := n) (j + o)) := by
    rw [Finset.disjoint_left]
    intro t ht ht'
    simp only [Finset.mem_map, Finset.mem_univ, true_and, Function.Embedding.coeFn_mk] at ht
    obtain ⟨k, rfl⟩ := ht
    simp [pending] at ht'
    omega
  rw [hset, BI.bigSep_union hd, BI.bigSep_map]
  rfl

/-- The words a gather writes at row `j` of its destination: the source's row the list's entry `j` names. -/
def rowWords (src : Memref sig c.2.kind sp s₀ e) (hg : s₀.Gathers a s)
    (offs : Memref sig c.2.kind .vmem si .i32) (hn : si.numel = s.size hg.axis')
    (fs : Buf (Elt F) (src.view.loc c)) (fo : Buf (Elt F) (offs.view.loc c))
    (hin : ∀ x, (offs.view.read (Elt F) fo x).toNat < s₀.size hg.axis) (j : Fin (s.size hg.axis')) :
    (s.rowShape hg.axis').Idx → Elt F e :=
  fun i => src.view.read (Elt F) fs (hg.rowIdx (rows (offs.view.read (Elt F) fo) hn hin j) i)

/-- What row `j` of a gather delivers: row `j` of the destination written with the row of the source its list entry
    names, the entry's share of the list, and the source's share the row was lent. -/
def rowDel (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
            ((dst.view.slice (s.rowRect hg.axis' j)).write (Elt F) fd
              (rowWords c src hg offs hn fs fo hin j) Finset.univ))
        ∗ (offs.view.loc c ↦[{offs.view.emb (si.rowMajor.symm (j.cast hn.symm))}]{qo} fo))
      ∗ (src.view.loc c ↦[src.view.set]{pieceOf q _ ho j} fs))

instance rowDel_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowDel c src dst hg offs hn ho q qo fs fd fo hin j) := by
  unfold rowDel; infer_instance

/-- All rows' deliveries are the destination written with the gather's payload, the source's share and the list's. -/
theorem rowDel_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    (bigSep Finset.univ (rowDel c src dst hg offs hn ho q qo fs fd fo hin) : sProp 𝕄)
      ⊢ iprop((dst.view.loc c ↦[dst.view.set]{fullShare}
              (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective (fun j : Fin (s.size hg.axis') => si.rowMajor.symm (j.cast hn.symm)) :=
    si.rowMajor.symm.bijective.comp (finCongr hn.symm).bijective
  have hW := pointsTo_rows_write (Ix := Ix) (Name := Name) (U := U) (Lvl := Lvl) c dst.view hg.axis' fd
      (rowWords c src hg offs hn fs fo hin)
      (gatherPayload hg (src.view.read (Elt F) fs) (rows (offs.view.read (Elt F) fo) hn hin)) fun j i => by
        unfold rowWords gatherPayload; rw [Shape.Gathers.idx_rowRect_emb]
  unfold rowDel
  iintro HD
  ihave H := bigSep_sep_out _ _ _ $$ HD
  icases H with ⟨H, Hsrc⟩
  ihave H' := bigSep_sep_out _ _ _ $$ H
  icases H' with ⟨Hrows, Hoffs⟩
  isplitl [Hrows]
  · iapply hW $$ Hrows
  isplitl [Hsrc]
  · iapply (Entails.of_eq (pointsTo_piecesOf (src.view.set) fs ho q).symm) $$ Hsrc
  · iapply (Entails.of_eq (pointsTo_entries c offs.view _ hen qo fo).symm) $$ Hoffs

/-- `enqueueIndirectGather` as the next `o` members of a batch on its semaphore, `o` its number of rows: the source's
    and the list's shares and the destination go in, each row's delivery being what the batch promised of its member. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ} (ι : Ix) (N : ℕ)
    (hN : ∀ i, (dst.slice (s.rowRect hg.axis' i) (s.stride_rowRect hg.axis' i)).view.dmaCredit = N)
    (ho : 0 < s.size hg.axis') (hin : ∀ x, (offs.view.read (Elt F) fo x).toNat < s₀.size hg.axis)
    (hj : j + s.size hg.axis' ≤ n) (hu : u ≤ j * N)
    (hD : ∀ i : Fin (s.size hg.axis'), rowDel c src dst hg offs hn ho q qo fs fd fo hin i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry :=
    si.rowMajor.symm.bijective.comp (finCongr hn.symm).bijective
  have hsum : ∑ i, (rd i).dst.view.dmaCredit = s.size hg.axis' * N := by
    rw [Finset.sum_congr rfl fun i _ => hN i, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_cut j (s.size hg.axis') hj (fun t => count EC (γ t) 0))) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i, iprop(inv κ (batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
          ((dst.view.slice (s.rowRect hg.axis' i)).write (Elt F) fd (rowWords c src hg offs hn fs fo hin i) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (SemLoc.dma sem) = N from hN i]
        iapply (batch_creditUpdate EC ⟨j + i.val, by omega⟩ (hD i))
        isplitr; · iexact Hinv
        iexact Hγi
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun i _ => hrow i)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.GatherBatch
-- ==== Proof.Words.lean ====
/-
  The words the pipelined body computes, in closed form.

  Before trip `k` of the hundred the five carried words are `k + 1` (stopping at 100), `k`, `k`, `k - 1` (0 at first) and
  `k` (wrapping to 0 after the last). A slot is its word's residue modulo two; a block is the tile's base plus the
  current trip, the next one or the previous one. The theorems below are over the 32 tiles and the 100 trips, decided.
-/
module

public import Idealize.ShloMosaic.Lib.Tactic
public import proofs.«01_k».proof.Proof.Gen.KernelIdeal.Skeleton

@[expose] public section

noncomputable section

namespace Cert.Proof.Words

open Cert.KernelIdeal Cert.KernelIdeal.Gen
open Idealize.ShloMosaic

/-- The tile's first block: it owns blocks `base i` to `base i + 99`. -/
def base (i : grid0.Coords) : ℕ := ((i 1).val + 16 * (i 0).val) * 100

theorem base_lt (i : grid0.Coords) : base i + 100 ≤ 3200 := by
  have h0 : (i 0).val < 2 := (i 0).isLt
  have h1 : (i 1).val < 16 := (i 1).isLt
  unfold base; omega

theorem trips_eq : k0_t1_loop.trips = 100 := by decide +kernel

/-- The word of slot `b`. -/
abbrev wd (n : ℕ) : BitVec 32 := BitVec.ofNat 32 n

theorem k0_off4_wd : ∀ n : Fin 101, k0_off4 (wd n.val) = ![n.val % 2, 0, 0] := by decide +kernel
theorem k0_off6_wd : ∀ n : Fin 101, k0_off6 (wd n.val) = ![n.val % 2] := by decide +kernel
theorem k0_off7_wd : ∀ n : Fin 101, k0_off7 (wd n.val) = ![n.val % 2, 0, 0] := by decide +kernel
theorem k0_off9_wd : ∀ n : Fin 101, k0_off9 (wd n.val) = ![n.val % 2] := by decide +kernel
theorem k0_off10_wd : ∀ n : Fin 101, k0_off10 (wd n.val) = ![n.val % 2, 0, 0] := by decide +kernel
theorem k0_off11_wd : ∀ n : Fin 101, k0_off11 (wd n.val) = ![n.val % 2, 0, 0] := by decide +kernel
theorem k0_off12_wd : ∀ n : Fin 101, k0_off12 (wd n.val) = ![n.val % 2, 0, 0] := by decide +kernel
theorem k0_off14_wd : ∀ n : Fin 101, k0_off14 (wd n.val) = ![n.val % 2] := by decide +kernel
theorem k0_off15_wd : ∀ n : Fin 101, k0_off15 (wd n.val) = ![n.val % 2, 0, 0] := by decide +kernel
theorem k0_off17_wd : ∀ n : Fin 101, k0_off17 (wd n.val) = ![n.val % 2] := by decide +kernel
theorem k0_off18_wd : ∀ n : Fin 101, k0_off18 (wd n.val) = ![n.val % 2, 0, 0] := by decide +kernel
theorem k0_off20_wd : ∀ n : Fin 101, k0_off20 (wd n.val) = ![n.val % 2] := by decide +kernel
theorem k0_off21_wd : ∀ n : Fin 101, k0_off21 (wd n.val) = ![n.val % 2, 0, 0] := by decide +kernel

theorem k0_off2_base (i : grid0.Coords) : k0_off2 i = ![2 * base i, 0] := by
  rw [k0_off2_eq]; unfold base
  congr 1; omega

theorem k0_off5_wd : ∀ (i : grid0.Coords) (k : Fin 100), k0_off5 i (wd k.val) = ![2 * (base i + (k.val + 1) % 100), 0] := by
  unfold base; decide +kernel
theorem k0_off8_wd : ∀ (i : grid0.Coords) (k : Fin 100), k0_off8 i (wd k.val) = ![2 * (base i + k.val), 0] := by
  unfold base; decide +kernel
theorem k0_off13_wd : ∀ (i : grid0.Coords) (k : Fin 100), k0_off13 i (wd k.val) = ![256 * (base i + k.val), 0] := by
  unfold base; decide +kernel
theorem k0_off16_wd : ∀ (i : grid0.Coords) (k : Fin 100), k0_off16 i (wd k.val) = ![256 * (base i + (k.val + 99) % 100), 0] := by
  unfold base; decide +kernel
theorem k0_off19_zero : ∀ i : grid0.Coords, k0_off19 i (wd 0) = ![256 * (base i + 99), 0] := by
  unfold base; decide +kernel

/-- Every trip but the last starts the next block's index copy. -/
theorem k0_cond1_wd : ∀ (i : grid0.Coords) (k : Fin k0_t1_loop.trips), k0_cond1 i k (wd k.val) = if k.val < 99 then 1#1 else 0#1 := by
  decide +kernel
/-- Every trip waits for its own block's index copy. -/
theorem k0_cond2_wd : ∀ (i : grid0.Coords) (k : Fin k0_t1_loop.trips), k0_cond2 i k (wd k.val) = 1#1 := by
  decide +kernel
/-- Every trip starts its block's copy out. -/
theorem k0_cond5_wd : ∀ (i : grid0.Coords) (k : Fin k0_t1_loop.trips), k0_cond5 i k (wd k.val) = 1#1 := by
  decide +kernel
/-- Every trip but the first waits for the block before's copy out. -/
theorem k0_cond7_wd : ∀ (i : grid0.Coords) (k : Fin k0_t1_loop.trips), k0_cond7 i k (wd k.val) = if 0 < k.val then 1#1 else 0#1 := by
  decide +kernel

end Cert.Proof.Words
-- ==== Proof.Views.lean ====
/-
  What a tile's transfers address, in coordinates.

  The tile's two scratch buffers are each two slots: an index slot is a pair of lists of 128 row numbers, a row slot is
  two halves of 128 rows. A block of the index array is two rows of it, a block of the output 256 rows. Each view below
  is spelled as the kernel spells it; the lemmas give the element a view's index names and the elements a view covers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.GatherBatch
public import proofs.«01_k».proof.Proof.Words

@[expose] public section

noncomputable section

namespace Cert.Proof.Tile

open Cert.KernelIdeal Cert.KernelIdeal.Gen
open Idealize.ShloMosaic
open Idealize.ShloMosaic.ValueIdx
open Idealize.ShloMosaic.SparseCore (S V T)

variable {F : FTy → Type}

/-! ## The five buffers, whole -/

/-- The padded table, the index blocks, the output rows, the index slots, the row slots. -/
abbrev tM : Memref sig .scVector .hbm S1000000x128 .f32 := Memref.whole main_v0_scv
abbrev xM : Memref sig .scVector .hbm S6400x128 .i32 := Memref.whole main_v1_scv
abbrev oM : Memref sig .scVector .hbm S819200x128 .f32 := Memref.whole main_v2_scv
abbrev aM : Memref sig .scVector .vmem S2x2x128 .i32 := Memref.whole cc0_scoped0
abbrev rM : Memref sig .scVector .vmem S2x256x128 .f32 := Memref.whole cc0_scoped2

/-! ## The slots, the lists and the halves -/

theorem inb_slotI (b : Fin 2) : ∀ a, (![b.val, 0, 0] : Fin 3 → ℕ) a + S1x2x128.size a ≤ S2x2x128.size a := by
  revert b; decide
theorem inb_slotR (b : Fin 2) : ∀ a, (![b.val, 0, 0] : Fin 3 → ℕ) a + S1x256x128.size a ≤ S2x256x128.size a := by
  revert b; decide
theorem inb_sem (b : Fin 2) : ∀ a, (![b.val] : Fin 1 → ℕ) a + S1.size a ≤ S2.size a := by
  revert b; decide
theorem inb_list (j : Fin 2) : ∀ a, (![j.val, 0] : Fin 2 → ℕ) a + S1x128.size a ≤ S2x128.size a := by
  revert j; decide
theorem inb_half (j : Fin 2) : ∀ a, (![128 * j.val, 0] : Fin 2 → ℕ) a + S128x128.size a ≤ S256x128.size a := by
  revert j; decide
theorem inb_blkX (n : Fin 3200) : ∀ a, (![2 * n.val, 0] : Fin 2 → ℕ) a + S2x128.size a ≤ S6400x128.size a := fun a => by
  have := n.isLt
  match a with
  | ⟨0, _⟩ => show 2 * n.val + 2 ≤ 6400; omega
  | ⟨1, _⟩ => show 0 + 128 ≤ 128; omega
theorem inb_blkO (n : Fin 3200) : ∀ a, (![256 * n.val, 0] : Fin 2 → ℕ) a + S256x128.size a ≤ S819200x128.size a := fun a => by
  have := n.isLt
  match a with
  | ⟨0, _⟩ => show 256 * n.val + 256 ≤ 819200; omega
  | ⟨1, _⟩ => show 0 + 128 ≤ 128; omega

/-- Index slot `b`: two lists. -/
abbrev slotI (b : Fin 2) : Memref sig .scVector .vmem S2x128 .i32 :=
  (aM.slice (Rect.unit (s := S2x2x128) ![b.val, 0, 0] S1x2x128.size (inb_slotI b)) (fun _ => rfl)).squeeze S2x128 squeezes_S1x2x128_S2x128
/-- Row slot `b`: 256 rows. -/
abbrev slotR (b : Fin 2) : Memref sig .scVector .vmem S256x128 .f32 :=
  (rM.slice (Rect.unit (s := S2x256x128) ![b.val, 0, 0] S1x256x128.size (inb_slotR b)) (fun _ => rfl)).squeeze S256x128 squeezes_S1x256x128_S256x128
/-- List `j` of index slot `b`. -/
abbrev listI (b j : Fin 2) : Memref sig .scVector .vmem S128 .i32 :=
  ((slotI b).slice (Rect.unit (s := S2x128) ![j.val, 0] S1x128.size (inb_list j)) (fun _ => rfl)).squeeze S128 squeezes_S1x128_S128
/-- Half `j` of row slot `b`. -/
abbrev halfR (b j : Fin 2) : Memref sig .scVector .vmem S128x128 .f32 :=
  (slotR b).slice (Rect.unit (s := S256x128) ![128 * j.val, 0] S128x128.size (inb_half j)) (fun _ => rfl)
/-- Block `n` of the index array. -/
abbrev blkX (n : Fin 3200) : Memref sig .scVector .hbm S2x128 .i32 :=
  xM.slice (Rect.unit (s := S6400x128) ![2 * n.val, 0] S2x128.size (inb_blkX n)) (fun _ => rfl)
/-- Block `n` of the output. -/
abbrev blkO (n : Fin 3200) : Memref sig .scVector .hbm S256x128 .f32 :=
  oM.slice (Rect.unit (s := S819200x128) ![256 * n.val, 0] S256x128.size (inb_blkO n)) (fun _ => rfl)
/-- All of the table, as the gathers address it. -/
abbrev allT : Memref sig .scVector .hbm S1000000x128 .f32 :=
  tM.slice (Rect.unit (s := S1000000x128) ![0, 0] S1000000x128.size inb_S1000000x128_S1000000x128_0_0) (fun _ => rfl)

/-- The semaphore of index slot `b`, of row slot `b`, and the gathers'. -/
abbrev semI (b : Fin 2) : DmaSem sig := ((cc0_scoped1.slice (Rect.unit (s := S2) ![b.val] S1.size (inb_sem b))).squeeze S_ squeezes_S1_S_).sem
abbrev semO (b : Fin 2) : DmaSem sig := ((cc0_scoped3.slice (Rect.unit (s := S2) ![b.val] S1.size (inb_sem b))).squeeze S_ squeezes_S1_S_).sem
abbrev semG : DmaSem sig := cc0_scoped4.sem

/-! ## The element a view's index names -/

theorem emb_slotI (b : Fin 2) (z : S2x128.Idx) : (slotI b).view.emb z = ix3 b (z 0) (z 1) := by
  show (Rect.unit (s := S2x2x128) ![b.val, 0, 0] S1x2x128.size (inb_slotI b)).emb (Shape.reshapeEquiv _ z) = _
  rw [Shape.reshapeEquiv_cons_one]
  funext a; apply Fin.ext
  match a with
  | ⟨0, _⟩ => show b.val + 1 * 0 = b.val; omega
  | ⟨1, _⟩ => show 0 + 1 * (z 0).val = (z 0).val; omega
  | ⟨2, _⟩ => show 0 + 1 * (z 1).val = (z 1).val; omega

theorem emb_slotR (b : Fin 2) (z : S256x128.Idx) : (slotR b).view.emb z = ix3 b (z 0) (z 1) := by
  show (Rect.unit (s := S2x256x128) ![b.val, 0, 0] S1x256x128.size (inb_slotR b)).emb (Shape.reshapeEquiv _ z) = _
  rw [Shape.reshapeEquiv_cons_one]
  funext a; apply Fin.ext
  match a with
  | ⟨0, _⟩ => show b.val + 1 * 0 = b.val; omega
  | ⟨1, _⟩ => show 0 + 1 * (z 0).val = (z 0).val; omega
  | ⟨2, _⟩ => show 0 + 1 * (z 1).val = (z 1).val; omega

theorem emb_listI (b j : Fin 2) (z : S128.Idx) : (listI b j).view.emb z = ix3 b j (z 0) := by
  show (slotI b).view.emb ((Rect.unit (s := S2x128) ![j.val, 0] S1x128.size (inb_list j)).emb (Shape.reshapeEquiv _ z)) = _
  rw [Shape.reshapeEquiv_cons_one, emb_slotI]
  funext a; apply Fin.ext
  match a with
  | ⟨0, _⟩ => rfl
  | ⟨1, _⟩ => show j.val + 1 * 0 = j.val; omega
  | ⟨2, _⟩ => show 0 + 1 * (z 0).val = (z 0).val; omega

theorem half_lt (j : Fin 2) (z : S128x128.Idx) : 128 * j.val + (z 0).val < 256 := by
  have h : (z 0).val < 128 := (z 0).isLt
  omega

theorem emb_halfR (b j : Fin 2) (z : S128x128.Idx) : (halfR b j).view.emb z = ix3 b ⟨128 * j.val + (z 0).val, half_lt j z⟩ (z 1) := by
  show (slotR b).view.emb ((Rect.unit (s := S256x128) ![128 * j.val, 0] S128x128.size (inb_half j)).emb z) = _
  rw [emb_slotR]
  funext a; apply Fin.ext
  match a with
  | ⟨0, _⟩ => rfl
  | ⟨1, _⟩ => show 128 * j.val + 1 * (z 0).val = 128 * j.val + (z 0).val; omega
  | ⟨2, _⟩ => show 0 + 1 * (z 1).val = (z 1).val; omega

theorem blkX_lt (n : Fin 3200) (z : S2x128.Idx) : 2 * n.val + (z 0).val < 6400 := by
  have h : (z 0).val < 2 := (z 0).isLt
  omega
theorem blkO_lt (n : Fin 3200) (z : S256x128.Idx) : 256 * n.val + (z 0).val < 819200 := by
  have h : (z 0).val < 256 := (z 0).isLt
  omega

theorem emb_blkX (n : Fin 3200) (z : S2x128.Idx) : (blkX n).view.emb z = ix2 ⟨2 * n.val + (z 0).val, blkX_lt n z⟩ (z 1) := by
  funext a; apply Fin.ext
  match a with
  | ⟨0, _⟩ => show 2 * n.val + 1 * (z 0).val = 2 * n.val + (z 0).val; omega
  | ⟨1, _⟩ => show 0 + 1 * (z 1).val = (z 1).val; omega

theorem emb_blkO (n : Fin 3200) (z : S256x128.Idx) : (blkO n).view.emb z = ix2 ⟨256 * n.val + (z 0).val, blkO_lt n z⟩ (z 1) := by
  funext a; apply Fin.ext
  match a with
  | ⟨0, _⟩ => show 256 * n.val + 1 * (z 0).val = 256 * n.val + (z 0).val; omega
  | ⟨1, _⟩ => show 0 + 1 * (z 1).val = (z 1).val; omega

theorem emb_allT (z : S1000000x128.Idx) : allT.view.emb z = z := by
  funext a; apply Fin.ext
  match a with
  | ⟨0, _⟩ => show 0 + 1 * (z 0).val = (z 0).val; omega
  | ⟨1, _⟩ => show 0 + 1 * (z 1).val = (z 1).val; omega

/-! ## The elements a view covers -/

theorem mem_slotI (b : Fin 2) (y : S2x2x128.Idx) : y ∈ (slotI b).view.set ↔ y 0 = b := by
  simp only [View.set, Finset.mem_map, Finset.mem_univ, true_and]
  constructor
  · rintro ⟨z, rfl⟩; rw [emb_slotI]
  · intro h
    refine ⟨ix2 (y 1) (y 2), ?_⟩
    rw [emb_slotI, ← h]; exact (eq_ix3 y).symm

theorem mem_slotR (b : Fin 2) (y : S2x256x128.Idx) : y ∈ (slotR b).view.set ↔ y 0 = b := by
  simp only [View.set, Finset.mem_map, Finset.mem_univ, true_and]
  constructor
  · rintro ⟨z, rfl⟩; rw [emb_slotR]
  · intro h
    refine ⟨ix2 (y 1) (y 2), ?_⟩
    rw [emb_slotR, ← h]; exact (eq_ix3 y).symm

theorem mem_listI (b j : Fin 2) (y : S2x2x128.Idx) : y ∈ (listI b j).view.set ↔ y 0 = b ∧ y 1 = j := by
  simp only [View.set, Finset.mem_map, Finset.mem_univ, true_and]
  constructor
  · rintro ⟨z, rfl⟩; rw [emb_listI]; exact ⟨rfl, rfl⟩
  · rintro ⟨h, h'⟩
    refine ⟨ix1 (y 2), ?_⟩
    rw [emb_listI, ← h, ← h']; exact (eq_ix3 y).symm

theorem mem_halfR (b j : Fin 2) (y : S2x256x128.Idx) : y ∈ (halfR b j).view.set ↔ y 0 = b ∧ (y 1).val / 128 = j.val := by
  simp only [View.set, Finset.mem_map, Finset.mem_univ, true_and]
  constructor
  · rintro ⟨z, rfl⟩; rw [emb_halfR]
    have h : (z 0).val < 128 := (z 0).isLt
    exact ⟨rfl, by show (128 * j.val + (z 0).val) / 128 = j.val; omega⟩
  · rintro ⟨h, h'⟩
    refine ⟨ix2 ⟨(y 1).val % 128, Nat.mod_lt _ (by omega)⟩ (y 2), ?_⟩
    rw [emb_halfR, ← h]
    refine Eq.trans ?_ (eq_ix3 y).symm
    funext a; apply Fin.ext
    match a with
    | ⟨0, _⟩ => rfl
    | ⟨1, _⟩ => show 128 * j.val + (y 1).val % 128 = (y 1).val; omega
    | ⟨2, _⟩ => rfl

theorem mem_blkX (n : Fin 3200) (y : S6400x128.Idx) : y ∈ (blkX n).view.set ↔ (y 0).val / 2 = n.val := by
  simp only [View.set, Finset.mem_map, Finset.mem_univ, true_and]
  constructor
  · rintro ⟨z, rfl⟩; rw [emb_blkX]
    have h : (z 0).val < 2 := (z 0).isLt
    show (2 * n.val + (z 0).val) / 2 = n.val; omega
  · intro h
    refine ⟨ix2 ⟨(y 0).val % 2, Nat.mod_lt _ (by omega)⟩ (y 1), ?_⟩
    rw [emb_blkX]
    refine Eq.trans ?_ (eq_ix2 y).symm
    funext a; apply Fin.ext
    match a with
    | ⟨0, _⟩ => show 2 * n.val + (y 0).val % 2 = (y 0).val; omega
    | ⟨1, _⟩ => rfl

theorem mem_blkO (n : Fin 3200) (y : S819200x128.Idx) : y ∈ (blkO n).view.set ↔ (y 0).val / 256 = n.val := by
  simp only [View.set, Finset.mem_map, Finset.mem_univ, true_and]
  constructor
  · rintro ⟨z, rfl⟩; rw [emb_blkO]
    have h : (z 0).val < 256 := (z 0).isLt
    show (256 * n.val + (z 0).val) / 256 = n.val; omega
  · intro h
    refine ⟨ix2 ⟨(y 0).val % 256, Nat.mod_lt _ (by omega)⟩ (y 1), ?_⟩
    rw [emb_blkO]
    refine Eq.trans ?_ (eq_ix2 y).symm
    funext a; apply Fin.ext
    match a with
    | ⟨0, _⟩ => show 256 * n.val + (y 0).val % 256 = (y 0).val; omega
    | ⟨1, _⟩ => rfl

theorem set_allT : allT.view.set = Finset.univ := by
  ext y
  simp only [View.set, Finset.mem_map, Finset.mem_univ, true_and, iff_true]
  exact ⟨y, emb_allT y⟩

/-- The rows of blocks `lo` to `hi - 1` of the output. -/
def rowsO (lo hi : ℕ) : Finset S819200x128.Idx := Finset.univ.filter fun y => lo ≤ (y 0).val / 256 ∧ (y 0).val / 256 < hi

theorem mem_rowsO (lo hi : ℕ) (y : S819200x128.Idx) : y ∈ rowsO lo hi ↔ lo ≤ (y 0).val / 256 ∧ (y 0).val / 256 < hi := by
  simp [rowsO]

theorem slotI_union : (slotI 0).view.set ∪ (slotI 1).view.set = Finset.univ := by
  ext y
  simp only [Finset.mem_union, Finset.mem_univ, iff_true]
  rw [mem_slotI, mem_slotI]
  exact (by decide : ∀ b : Fin 2, b = 0 ∨ b = 1) (y 0)
theorem slotI_disjoint : Disjoint (slotI 0).view.set (slotI 1).view.set := by
  rw [Finset.disjoint_left]; intro y h h'
  have h := (mem_slotI 0 y).1 h; have h' := (mem_slotI 1 y).1 h'
  exact absurd (congrArg Fin.val (h.symm.trans h')) (by show ¬ (0 : ℕ) = 1; decide)
theorem slotR_union : (slotR 0).view.set ∪ (slotR 1).view.set = Finset.univ := by
  ext y
  simp only [Finset.mem_union, Finset.mem_univ, iff_true]
  rw [mem_slotR, mem_slotR]
  exact (by decide : ∀ b : Fin 2, b = 0 ∨ b = 1) (y 0)
theorem slotR_disjoint : Disjoint (slotR 0).view.set (slotR 1).view.set := by
  rw [Finset.disjoint_left]; intro y h h'
  have h := (mem_slotR 0 y).1 h; have h' := (mem_slotR 1 y).1 h'
  exact absurd (congrArg Fin.val (h.symm.trans h')) (by show ¬ (0 : ℕ) = 1; decide)
theorem listI_union (b : Fin 2) : (listI b 0).view.set ∪ (listI b 1).view.set = (slotI b).view.set := by
  ext y
  rw [Finset.mem_union, mem_listI, mem_listI, mem_slotI, ← and_or_left]
  exact and_iff_left ((by decide : ∀ b : Fin 2, b = 0 ∨ b = 1) (y 1))
theorem listI_disjoint (b : Fin 2) : Disjoint (listI b 0).view.set (listI b 1).view.set := by
  rw [Finset.disjoint_left]; intro y h h'
  have h := ((mem_listI b 0 y).1 h).2; have h' := ((mem_listI b 1 y).1 h').2
  exact absurd (congrArg Fin.val (h.symm.trans h')) (by show ¬ (0 : ℕ) = 1; decide)
theorem halfR_union (b : Fin 2) : (halfR b 0).view.set ∪ (halfR b 1).view.set = (slotR b).view.set := by
  ext y
  have h : (y 1).val < 256 := (y 1).isLt
  rw [Finset.mem_union, mem_halfR, mem_halfR, mem_slotR, ← and_or_left]
  refine and_iff_left ?_
  show (y 1).val / 128 = 0 ∨ (y 1).val / 128 = 1; omega
theorem halfR_disjoint (b : Fin 2) : Disjoint (halfR b 0).view.set (halfR b 1).view.set := by
  rw [Finset.disjoint_left]; intro y h h'
  have h := ((mem_halfR b 0 y).1 h).2; have h' := ((mem_halfR b 1 y).1 h').2
  rw [h] at h'; exact absurd h' (by decide)

/-- The next block off the front of the rows still to write. -/
theorem rowsO_cut (n : Fin 3200) (hi : ℕ) (h : n.val < hi) :
    (blkO n).view.set ∪ rowsO (n.val + 1) hi = rowsO n.val hi ∧ Disjoint (blkO n).view.set (rowsO (n.val + 1) hi) := by
  constructor
  · ext y; rw [Finset.mem_union, mem_blkO, mem_rowsO, mem_rowsO]; omega
  · rw [Finset.disjoint_left]; intro y; rw [mem_blkO, mem_rowsO]; omega
/-- The next block onto the back of the rows written. -/
theorem rowsO_snoc (n : Fin 3200) (lo : ℕ) (h : lo ≤ n.val) :
    rowsO lo n.val ∪ (blkO n).view.set = rowsO lo (n.val + 1) ∧ Disjoint (rowsO lo n.val) (blkO n).view.set := by
  constructor
  · ext y; rw [Finset.mem_union, mem_blkO, mem_rowsO, mem_rowsO]; omega
  · rw [Finset.disjoint_left]; intro y; rw [mem_blkO, mem_rowsO]; omega
theorem rowsO_empty (lo : ℕ) : rowsO lo lo = ∅ := by
  ext y; rw [mem_rowsO]; simp

end Cert.Proof.Tile

end
-- ==== Proof.Checks.lean ====
/-
  The checks the body's trips assume, and the words a trip carries on.

  Every slice a trip takes is inside its buffer: its offset is one of the closed forms of the words' module, and each of
  those is in bounds. The carried words move on by one, as the closed form before the next trip says.
-/
module

public import proofs.«01_k».proof.Proof.Views

@[expose] public section

noncomputable section

namespace Cert.Proof.Tile

open Cert.KernelIdeal Cert.KernelIdeal.Gen
open Idealize.ShloMosaic
open Cert.Proof.Words

/-! ## The five words of a trip's blocks -/

/-- The tile's base as the kernel computes it. -/
def baseW (i : grid0.Coords) : BitVec 32 :=
  Scalar.muli (Scalar.addi (Scalar.addi 0#32 (Scalar.muli (BitVec.ofNat 32 (i 1).val) 1#32)) (Scalar.muli (BitVec.ofNat 32 (i 0).val) 16#32)) 100#32
/-- The current block, the one before and the one after. -/
def curW (i : grid0.Coords) (a : BitVec 32) : BitVec 32 := Scalar.addi a (baseW i)
def prevW (i : grid0.Coords) (a : BitVec 32) : BitVec 32 :=
  Scalar.addi (Scalar.select (Scalar.cmpi .eq (Scalar.select 1#1 (Scalar.subi a 1#32) a) 4294967295#32) 99#32
    (Scalar.select 1#1 (Scalar.subi a 1#32) a)) (baseW i)
def nextW (i : grid0.Coords) (a : BitVec 32) : BitVec 32 :=
  Scalar.addi (Scalar.select (Scalar.cmpi .eq (Scalar.select 1#1 (Scalar.addi a 1#32) a) 100#32) 0#32
    (Scalar.select 1#1 (Scalar.addi a 1#32) a)) (baseW i)

/-- The induction variable. -/
abbrev ivW (k : Fin k0_t1_loop.trips) : BitVec 32 := Scf.iv 0#32 1#32 k

theorem next6 : ∀ (i : grid0.Coords) (k : Fin k0_t1_loop.trips),
    Scalar.select (Scalar.andi (Scalar.andi (Scalar.cmpi .ne (curW i (wd k.val)) (nextW i (wd k.val)))
      (Scalar.xori (Scalar.cmpi .sge (ivW k) 99#32) 1#1)) 1#1) (Scalar.addi (wd (k.val + 1)) 1#32) (wd (k.val + 1))
    = wd (min (k.val + 2) 100) := by decide +kernel
theorem next7 : ∀ (i : grid0.Coords) (k : Fin k0_t1_loop.trips),
    Scalar.select (Scalar.ori (Scalar.cmpi .ne (curW i (wd k.val)) (nextW i (wd k.val))) (Scalar.cmpi .eq (ivW k) 99#32))
      (Scalar.addi (wd k.val) 1#32) (wd k.val) = wd (k.val + 1) := by decide +kernel
theorem next8 : ∀ (i : grid0.Coords) (k : Fin k0_t1_loop.trips),
    Scalar.select (Scalar.andi (Scalar.ori (Scalar.cmpi .ne (curW i (wd k.val)) (nextW i (wd k.val))) (Scalar.cmpi .eq (ivW k) 99#32)) 1#1)
      (Scalar.addi (wd k.val) 1#32) (wd k.val) = wd (k.val + 1) := by decide +kernel
theorem next9 : ∀ (i : grid0.Coords) (k : Fin k0_t1_loop.trips),
    Scalar.select (Scalar.andi (Scalar.andi (Scalar.cmpi .ne (curW i (wd k.val)) (prevW i (wd k.val)))
      (Scalar.xori (Scalar.cmpi .eq (ivW k) 0#32) 1#1)) 1#1) (Scalar.addi (wd (k.val - 1)) 1#32) (wd (k.val - 1))
    = wd k.val := by decide +kernel
theorem next10 : ∀ k : Fin k0_t1_loop.trips,
    Scalar.select (Scalar.cmpi .eq (Scalar.select 1#1 (Scalar.addi (wd k.val) 1#32) (wd k.val)) 100#32) 0#32
      (Scalar.select 1#1 (Scalar.addi (wd k.val) 1#32) (wd k.val)) = wd ((k.val + 1) % 100) := by decide +kernel

/-! ## The slots and the blocks of a trip -/

/-- The slot of trip `k`. -/
abbrev par (k : ℕ) : Fin 2 := ⟨k % 2, Nat.mod_lt _ (by omega)⟩
theorem blk_lt (i : grid0.Coords) (k : ℕ) (hk : k < 100) : base i + k < 3200 := by have := base_lt i; omega
/-- The block of trip `k`. -/
abbrev blk (i : grid0.Coords) (k : ℕ) (hk : k < 100) : Fin 3200 := ⟨base i + k, blk_lt i k hk⟩

theorem k_lt (k : Fin k0_t1_loop.trips) : k.val < 100 := Nat.lt_of_lt_of_eq k.isLt trips_eq

section
variable (i : grid0.Coords) (k : Fin k0_t1_loop.trips)

theorem off4_eq : k0_off4 (wd (k.val + 1)) = ![(par (k.val + 1)).val, 0, 0] := k0_off4_wd ⟨k.val + 1, by have := k_lt k; omega⟩
theorem off6_eq : k0_off6 (wd (k.val + 1)) = ![(par (k.val + 1)).val] := k0_off6_wd ⟨k.val + 1, by have := k_lt k; omega⟩
theorem off7_eq : k0_off7 (wd k.val) = ![(par k.val).val, 0, 0] := k0_off7_wd ⟨k.val, by have := k_lt k; omega⟩
theorem off9_eq : k0_off9 (wd k.val) = ![(par k.val).val] := k0_off9_wd ⟨k.val, by have := k_lt k; omega⟩
theorem off10_eq : k0_off10 (wd k.val) = ![(par k.val).val, 0, 0] := k0_off10_wd ⟨k.val, by have := k_lt k; omega⟩
theorem off11_eq : k0_off11 (wd k.val) = ![(par k.val).val, 0, 0] := k0_off11_wd ⟨k.val, by have := k_lt k; omega⟩
theorem off12_eq : k0_off12 (wd k.val) = ![(par k.val).val, 0, 0] := k0_off12_wd ⟨k.val, by have := k_lt k; omega⟩
theorem off14_eq : k0_off14 (wd k.val) = ![(par k.val).val] := k0_off14_wd ⟨k.val, by have := k_lt k; omega⟩
theorem off15_eq : k0_off15 (wd (k.val - 1)) = ![(par (k.val - 1)).val, 0, 0] := k0_off15_wd ⟨k.val - 1, by have := k_lt k; omega⟩
theorem off17_eq : k0_off17 (wd (k.val - 1)) = ![(par (k.val - 1)).val] := k0_off17_wd ⟨k.val - 1, by have := k_lt k; omega⟩
theorem off18_eq : k0_off18 (wd 99) = ![(par 99).val, 0, 0] := k0_off18_wd 99
theorem off20_eq : k0_off20 (wd 99) = ![(par 99).val] := k0_off20_wd 99
theorem off21_eq : k0_off21 (wd 99) = ![(par 99).val, 0, 0] := k0_off21_wd 99
theorem off2_eq : k0_off2 i = ![2 * (blk i 0 (by omega)).val, 0] := k0_off2_base i
theorem off5_eq (h : k.val < 99) : k0_off5 i (wd k.val) = ![2 * (blk i (k.val + 1) (by omega)).val, 0] := by
  rw [k0_off5_wd i ⟨k.val, by omega⟩]
  show ![2 * (base i + (k.val + 1) % 100), 0] = ![2 * (base i + (k.val + 1)), 0]
  rw [Nat.mod_eq_of_lt (by omega)]
theorem off8_eq : k0_off8 i (wd k.val) = ![2 * (blk i k.val (k_lt k)).val, 0] := k0_off8_wd i ⟨k.val, k_lt k⟩
theorem off13_eq : k0_off13 i (wd k.val) = ![256 * (blk i k.val (k_lt k)).val, 0] := k0_off13_wd i ⟨k.val, k_lt k⟩
theorem off16_eq (h : 0 < k.val) : k0_off16 i (wd k.val) = ![256 * (blk i (k.val - 1) (by have := k_lt k; omega)).val, 0] := by
  have hk := k_lt k
  rw [k0_off16_wd i ⟨k.val, hk⟩]
  show ![256 * (base i + (k.val + 99) % 100), 0] = ![256 * (base i + (k.val - 1)), 0]
  rw [show (k.val + 99) % 100 = k.val - 1 by omega]
theorem off19_eq : k0_off19 i (wd 0) = ![256 * (blk i 99 (by omega)).val, 0] := k0_off19_zero i

/-! ## The checks hold -/

theorem cond1_iff : k0_cond1 i k (wd k.val) = 1#1 ↔ k.val < 99 := by
  rw [k0_cond1_wd i k]; split <;> simp_all
theorem cond7_iff : k0_cond7 i k (wd k.val) = 1#1 ↔ 0 < k.val := by
  rw [k0_cond7_wd i k]; split <;> simp_all

theorem chk3_ok : k0_chk3 (wd k.val) := by unfold k0_chk3; rw [off11_eq]; exact inb_slotI _
theorem chk2_ok : k0_chk2 (wd k.val) := by unfold k0_chk2; rw [off10_eq]; exact inb_slotR _
theorem chk1_ok : k0_chk1 i k (wd (k.val + 1)) (wd k.val) (wd k.val) (wd (k.val - 1)) (wd k.val) := by
  unfold k0_chk1
  refine ⟨fun h => ?_, fun h => ?_, fun h => ?_, fun _ => ?_, fun _ => ?_, fun _ => ?_, fun _ => ?_, fun _ => ?_, fun _ => ?_, fun h => ?_, fun h => ?_,
    fun h => ?_⟩
  · rw [off4_eq]; exact inb_slotI _
  · rw [off5_eq i k ((cond1_iff i k).1 h)]; exact inb_blkX _
  · rw [off6_eq]; exact inb_sem _
  · rw [off7_eq]; exact inb_slotI _
  · rw [off8_eq]; exact inb_blkX _
  · rw [off9_eq]; exact inb_sem _
  · rw [off12_eq]; exact inb_slotR _
  · rw [off13_eq]; exact inb_blkO _
  · rw [off14_eq]; exact inb_sem _
  · rw [off15_eq]; exact inb_slotR _
  · rw [off16_eq i k ((cond7_iff i k).1 h)]; exact inb_blkO _
  · rw [off17_eq]; exact inb_sem _
theorem chk5_ok : k0_chk5 i (wd 0) := by unfold k0_chk5; rw [off19_eq]; exact inb_blkO _
theorem chk4_ok : k0_chk4 (wd 99) := by
  unfold k0_chk4
  rw [off18_eq, off20_eq, off21_eq]
  exact ⟨inb_slotR _, inb_sem _, inb_slotR _⟩

end

end Cert.Proof.Tile

end
-- ==== Proof.Setup.lean ====
/-
  The program as the launch theorem sees it, the resources, and what a tile holds.

  A tile holds a share of the index blocks and a share of the table, both whole, its own rows of the output, its two
  index slots, its two row slots and five counters. The definitions below name what is held when nothing is in flight
  and what is held while a transfer is: an index slot being filled with a block, a row slot being copied out.
-/
module

public import proofs.«01_k».proof.Proof.Views
public import proofs.«01_k».proof.Proof.Checks

@[expose] public section

noncomputable section

namespace Cert.Proof.Tile

open Cert.KernelIdeal Cert.KernelIdeal.Gen
open Cert.Proof.Words Cert.Proof.GatherBatch
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The tile and its buffers -/

abbrev cV (L : grid0.Coords) : Fin τ.nSC := (L 0).castLE hcore0
abbrev jV (L : grid0.Coords) : Fin τ.nSub := (L 1).castLE hsub0
/-- The thread of tile `L` of device `d`. -/
abbrev thr (d : Dev nD) (L : grid0.Coords) : Thread nD τ := V d (cV L) (jV L)

/-- The row of the table an output row takes, and the output: row `r` is the table's row named by word `r` of the index
    blocks. -/
def tgt (fx : S6400x128.Idx → BitVec 32) (fT : S1000000x128.Idx → Elt F .f32) (hx : ∀ y, (fx y).toNat < 1000000) : S819200x128.Idx → Elt F .f32 :=
  fun y => fT (ix2 ⟨(fx (ix2 ⟨(y 0).val / 128, by have := (y 0).isLt; show _ < 6400; have : (y 0).val < 819200 := this; omega⟩
    ⟨(y 0).val % 128, Nat.mod_lt _ (by decide)⟩)).toNat, hx _⟩ (y 1))

section
variable (d : Dev nD) (L : grid0.Coords)
variable (fx : S6400x128.Idx → BitVec 32) (fT : S1000000x128.Idx → Elt F .f32) (hx : ∀ y, (fx y).toNat < 1000000)

/-- One half of a share, by slot. -/
def hq (q : PosShare TreeShare) : Fin 2 → PosShare TreeShare
  | 0 => q.left
  | 1 => q.right

/-- Index slot `b` holds block `n` of the index array. -/
def HoldsI (b : Fin 2) (n : Fin 3200) (f : S2x2x128.Idx → BitVec 32) : Prop :=
  ∀ z, f ((slotI b).view.emb z) = fx ((blkX n).view.emb z)
/-- Row slot `b` holds block `n` of the output. -/
def HoldsR (b : Fin 2) (n : Fin 3200) (f : S2x256x128.Idx → Elt F .f32) : Prop :=
  ∀ z, f ((slotR b).view.emb z) = tgt fx fT hx ((blkO n).view.emb z)

/-- Index slot `b` at contents `f`; row slot `b` at contents `f`. -/
abbrev ptI (b : Fin 2) (f : Buf (Elt F) ((slotI b).view.loc (thr d L))) : sProp 𝕄 := (slotI b).view.loc (thr d L) ↦[(slotI b).view.set]{fullShare} f
abbrev ptR (b : Fin 2) (f : Buf (Elt F) ((slotR b).view.loc (thr d L))) : sProp 𝕄 := (slotR b).view.loc (thr d L) ↦[(slotR b).view.set]{fullShare} f
/-- A share of the whole index array, of the whole table. -/
abbrev xSh (q : PosShare TreeShare) : sProp 𝕄 := (xM).view.loc (thr d L) ↦[Finset.univ]{q} (fx : Buf (Elt F) ((xM).view.loc (thr d L)))
abbrev tSh (q : PosShare TreeShare) : sProp 𝕄 := (tM).view.loc (thr d L) ↦[Finset.univ]{q} (fT : Buf (Elt F) ((tM).view.loc (thr d L)))
/-- Rows of the output at contents `f`. -/
abbrev ptO (I : Finset S819200x128.Idx) (f : S819200x128.Idx → Elt F .f32) : sProp 𝕄 :=
  (oM).view.loc (thr d L) ↦[(I : Finset (Idx ((oM).view.loc (thr d L))))]{fullShare} (f : Buf (Elt F) ((oM).view.loc (thr d L)))
/-- A counter at zero. -/
abbrev sem0 (s : DmaSem sig) : sProp 𝕄 := semVal (thr d L, SemLoc.dma s) 0

/-- The credit of one index block, of one output block, of one gathered row. -/
abbrev NI : ℕ := (slotI 0).view.dmaCredit
abbrev NO : ℕ := (blkO 0).view.dmaCredit

/-- Index slot `b` with nothing in flight. -/
def idleI (q : PosShare TreeShare) (b : Fin 2) : sProp 𝕄 :=
  iprop((∃ f, ptI (F := F) d L b f) ∗ sem0 d L (semI b) ∗ xSh d L fx (hq q b))
/-- Index slot `b` while block `n` is being fetched into it. -/
def busyI (q : PosShare TreeShare) (b : Fin 2) (n : Fin 3200) : sProp 𝕄 :=
  iprop(Flight (EC (F := F)) (thr d L) (.dma (semI b)) none NI
      iprop((∃ f, ⌜HoldsI fx b n f⌝ ∗ ptI d L b f) ∗ ((blkX n).view.loc (thr d L) ↦[(blkX n).view.set]{hq q b} (fx : Buf (Elt F) ((xM).view.loc (thr d L)))))
    ∗ ((blkX n).view.loc (thr d L) ↦[Finset.univ \ (blkX n).view.set]{hq q b} (fx : Buf (Elt F) ((xM).view.loc (thr d L)))))
/-- Row slot `b` with nothing in flight. -/
def idleR (b : Fin 2) : sProp 𝕄 := iprop((∃ f, ptR (F := F) d L b f) ∗ sem0 d L (semO b))
/-- Row slot `b` while it is being copied out to block `n`. -/
def busyR (b : Fin 2) (n : Fin 3200) : sProp 𝕄 :=
  Flight (EC (F := F)) (thr d L) (.dma (semO b)) none NO iprop(ptO d L (blkO n).view.set (tgt fx fT hx) ∗ ∃ f, ptR d L b f)
/-- The thread's debts, its own waits recorded. -/
def owesAt (O : CellTallies nD τ sig (HIx 1)) (W : Waits sig (HIx 1)) : sProp 𝕄 :=
  iprop(∃ W', ⌜∀ p ∈ W', p ∈ W ∨ p.2 = none⌝ ∗ owes (thr d L) O W')

end

end Cert.Proof.Tile
-- ==== Proof.Steps.lean ====
/-
  The tile's four copies and their waits, one step at a time.

  Each rule below is one operation of the tile's program, at any offsets that the trip's arithmetic makes the slot's and
  the block's: fetching a block of indices, waiting for it, copying a row slot out, waiting for that.
-/
module

public import proofs.«01_k».proof.Proof.Setup

@[expose] public section

noncomputable section

namespace Cert.Proof.Tile

open Cert.KernelIdeal Cert.KernelIdeal.Gen
open Cert.Proof.Words Cert.Proof.GatherBatch
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable (d : Dev nD) (L : grid0.Coords)
variable (fx : S6400x128.Idx → BitVec 32) (fT : S1000000x128.Idx → Elt F .f32) (hx : ∀ y, (fx y).toNat < 1000000)

/-- The proof's wp over the tile's thread. -/
abbrev WP {α : Type} (p : Prog (TpuEff nD τ sig (Elt F) Λ₀ (.scVector ((L 0).castLE hcore0) ((L 1).castLE hsub0))) α) (Q : α → sProp 𝕄) : sProp 𝕄 :=
  wp frame (wpE (defs₀ (F := F)) 𝒱₀ (thr d L) none) Set.univ p Q

/-- Fetching block `n` into the idle index slot `b`. -/
theorem step_fetch (q : PosShare TreeShare) (b : Fin 2) (n : Fin 3200)
    {o1 : Fin 3 → ℕ} {o2 : Fin 2 → ℕ} {o3 : Fin 1 → ℕ}
    (h1 : o1 = ![b.val, 0, 0]) (h2 : o2 = ![2 * n.val, 0]) (h3 : o3 = ![b.val])
    (p1 : ∀ a, o1 a + S1x2x128.size a ≤ S2x2x128.size a) (p2 : ∀ a, o2 a + S2x128.size a ≤ S6400x128.size a)
    (p3 : ∀ a, o3 a + S1.size a ≤ S2.size a) {hs hd ht} {Q : PUnit → sProp 𝕄} :
    idleI d L fx q b ⊢ iprop((busyI d L fx q b n -∗ Q ⟨⟩)
      -∗ WP d L (Prog.lift (.enqueueDma (xM.slice (Rect.unit (s := S6400x128) o2 S2x128.size p2) (fun _ => rfl))
          (.here ((aM.slice (Rect.unit (s := S2x2x128) o1 S1x2x128.size p1) (fun _ => rfl)).squeeze S2x128 squeezes_S1x2x128_S2x128))
          (.dma ((cc0_scoped1.slice (Rect.unit (s := S2) o3 S1.size p3)).squeeze S_ squeezes_S1_S_).sem) hs hd ht)) Q) := by
  subst h1 h2 h3
  unfold idleI busyI
  iintro ⟨⟨%f, Hf⟩, Hv, Hx⟩ Hk
  ihave Hx2 := (pointsTo_split_subset (Finset.subset_univ (blkX n).view.set)).1 $$ Hx
  icases Hx2 with ⟨Hb, Hr⟩
  iapply (wp_dmaLocal (EC (F := F)) 𝒱₀ (thr d L) none (src := blkX n) (dst := slotI b) (sm := .dma (semI b)) (via := .same)
    (k := Prog.ret) none NI (hN := rfl) (hN0 := View.dmaCredit_pos (v := (slotI 0).view) (by decide)) (hSd := subset_rfl)) $$ [Hb Hf Hv]
  · isplitl [Hb]; · iexact Hb
    isplitl [Hf]; · iexact Hf
    iexact Hv
  iintro HF
  rw [wp_ret]; imodintro
  iapply Hk
  isplitl [HF]
  · iapply (Flight_mono (EC (F := F)) (thr d L) ?_) $$ HF
    iintro ⟨Hd, Hs⟩
    isplitl [Hd]
    · iexists _
      isplitr
      rotate_left
      · iexact Hd
      · ipureintro
        intro z
        exact (View.write_emb_of_mem _ _ (Finset.mem_univ z)).trans rfl
    · iexact Hs
  · iexact Hr

/-- Waiting for the index block. -/
theorem step_fetched (q : PosShare TreeShare) (b : Fin 2) (n : Fin 3200) (O : CellTallies nD τ sig (HIx 1)) (W : Waits sig (HIx 1))
    {o1 : Fin 3 → ℕ} {o2 : Fin 2 → ℕ} {o3 : Fin 1 → ℕ} (h3 : o3 = ![b.val])
    (p1 : ∀ a, o1 a + S1x2x128.size a ≤ S2x2x128.size a) (p2 : ∀ a, o2 a + S2x128.size a ≤ S6400x128.size a)
    (p3 : ∀ a, o3 a + S1.size a ≤ S2.size a) {hs hd} {Q : PUnit → sProp 𝕄} :
    iprop(MayWaits (thr d L) (none : HIx 1) O ∗ busyI d L fx q b n ∗ owesAt (F := F) d L O W)
      ⊢ iprop((((∃ f, ⌜HoldsI fx b n f⌝ ∗ ptI d L b f) ∗ sem0 d L (semI b) ∗ xSh d L fx (hq q b) ∗ owesAt (F := F) d L O W) -∗ Q ⟨⟩)
      -∗ WP d L (Prog.lift (.waitDma2 ((cc0_scoped1.slice (Rect.unit (s := S2) o3 S1.size p3)).squeeze S_ squeezes_S1_S_).sem
          (xM.slice (Rect.unit (s := S6400x128) o2 S2x128.size p2) (fun _ => rfl))
          ((aM.slice (Rect.unit (s := S2x2x128) o1 S1x2x128.size p1) (fun _ => rfl)).squeeze S2x128 squeezes_S1x2x128_S2x128) hs hd)) Q) := by
  subst h3
  unfold busyI owesAt
  iintro ⟨#Hm, ⟨HF, Hr⟩, %W', %hW, HO⟩ Hk
  iapply (wp_waitLocalO (EC (F := F)) 𝒱₀ (thr d L) none (sem := semI b) (hsrc := hs) (hdst := hd)
    (srcw := xM.slice (Rect.unit (s := S6400x128) o2 S2x128.size p2) (fun _ => rfl))
    (dstw := (aM.slice (Rect.unit (s := S2x2x128) o1 S1x2x128.size p1) (fun _ => rfl)).squeeze S2x128 squeezes_S1x2x128_S2x128)
    (k := Prog.ret) none (N := NI) (hN := rfl)) $$ [HF HO]
  · isplitl [HF]; · iexact HF
    isplitl [HO]; · iexact HO
    iapply (MayWaits.elim _) $$ Hm
  iintro ⟨⟨HD, Hb⟩, Hv, HO⟩
  rw [wp_ret]; imodintro
  iapply Hk
  isplitl [HD]; · iexact HD
  isplitl [Hv]; · iexact Hv
  isplitl [Hb Hr]
  · iapply (pointsTo_split_subset (Finset.subset_univ (blkX n).view.set)).2
    isplitl [Hb]; · iexact Hb
    iexact Hr
  · iexists _
    isplitr
    rotate_left
    · iexact HO
    · ipureintro
      intro p hp
      rcases Finset.mem_insert.mp hp with rfl | hp
      · exact Or.inr rfl
      · exact hW p hp

/-- Copying row slot `b`, which holds block `n`, out. -/
theorem step_out (b : Fin 2) (n : Fin 3200) (g : S2x256x128.Idx → Elt F .f32) (hg : HoldsR fx fT hx b n g) (f0 : S819200x128.Idx → Elt F .f32)
    {o1 : Fin 3 → ℕ} {o2 : Fin 2 → ℕ} {o3 : Fin 1 → ℕ}
    (h1 : o1 = ![b.val, 0, 0]) (h2 : o2 = ![256 * n.val, 0]) (h3 : o3 = ![b.val])
    (p1 : ∀ a, o1 a + S1x256x128.size a ≤ S2x256x128.size a) (p2 : ∀ a, o2 a + S256x128.size a ≤ S819200x128.size a)
    (p3 : ∀ a, o3 a + S1.size a ≤ S2.size a) {hs hd ht} {Q : PUnit → sProp 𝕄} :
    iprop(ptR d L b g ∗ ptO d L (blkO n).view.set f0 ∗ sem0 d L (semO b)) ⊢ iprop((busyR d L fx fT hx b n -∗ Q ⟨⟩)
      -∗ WP d L (Prog.lift (.enqueueDma ((rM.slice (Rect.unit (s := S2x256x128) o1 S1x256x128.size p1) (fun _ => rfl)).squeeze S256x128 squeezes_S1x256x128_S256x128)
          (.here (oM.slice (Rect.unit (s := S819200x128) o2 S256x128.size p2) (fun _ => rfl)))
          (.dma ((cc0_scoped3.slice (Rect.unit (s := S2) o3 S1.size p3)).squeeze S_ squeezes_S1_S_).sem) hs hd ht)) Q) := by
  subst h1 h2 h3
  unfold busyR
  iintro ⟨Hs, Hd, Hv⟩ Hk
  iapply (wp_dmaLocal (EC (F := F)) 𝒱₀ (thr d L) none (src := slotR b) (dst := blkO n) (sm := .dma (semO b)) (via := .same)
    (k := Prog.ret) none NO (hN := rfl) (hN0 := View.dmaCredit_pos (v := (blkO 0).view) (by decide)) (hSd := subset_rfl)) $$ [Hs Hd Hv]
  · isplitl [Hs]; · iexact Hs
    isplitl [Hd]; · iexact Hd
    iexact Hv
  iintro HF
  rw [wp_ret]; imodintro
  iapply Hk
  iapply (Flight_mono (EC (F := F)) (thr d L) ?_) $$ HF
  have hc : ∀ y ∈ (blkO n).view.set, (blkO n).view.write (Elt F) f0 (ReadAs.same.apply ((slotR b).view.read (Elt F) g)) Finset.univ y = tgt fx fT hx y := fun y hy => by
    obtain ⟨z, -, rfl⟩ := Finset.mem_map.mp hy
    exact (View.write_emb_of_mem _ _ (Finset.mem_univ z)).trans (hg z)
  iintro ⟨Hd, Hs⟩
  isplitl [Hd]
  · iapply (Entails.of_eq (pointsTo_congr hc)) $$ Hd
  · iexists _; iexact Hs

/-- Waiting for the copy out. -/
theorem step_outed (b : Fin 2) (n : Fin 3200) (O : CellTallies nD τ sig (HIx 1)) (W : Waits sig (HIx 1))
    {o1 : Fin 3 → ℕ} {o2 : Fin 2 → ℕ} {o3 : Fin 1 → ℕ} (h3 : o3 = ![b.val])
    (p1 : ∀ a, o1 a + S1x256x128.size a ≤ S2x256x128.size a) (p2 : ∀ a, o2 a + S256x128.size a ≤ S819200x128.size a)
    (p3 : ∀ a, o3 a + S1.size a ≤ S2.size a) {hs hd} {Q : PUnit → sProp 𝕄} :
    iprop(MayWaits (thr d L) (none : HIx 1) O ∗ busyR d L fx fT hx b n ∗ owesAt (F := F) d L O W)
      ⊢ iprop(((ptO d L (blkO n).view.set (tgt fx fT hx) ∗ idleR (F := F) d L b ∗ owesAt (F := F) d L O W) -∗ Q ⟨⟩)
      -∗ WP d L (Prog.lift (.waitDma2 ((cc0_scoped3.slice (Rect.unit (s := S2) o3 S1.size p3)).squeeze S_ squeezes_S1_S_).sem
          ((rM.slice (Rect.unit (s := S2x256x128) o1 S1x256x128.size p1) (fun _ => rfl)).squeeze S256x128 squeezes_S1x256x128_S256x128)
          (oM.slice (Rect.unit (s := S819200x128) o2 S256x128.size p2) (fun _ => rfl)) hs hd)) Q) := by
  subst h3
  unfold busyR owesAt idleR
  iintro ⟨#Hm, HF, %W', %hW, HO⟩ Hk
  iapply (wp_waitLocalO (EC (F := F)) 𝒱₀ (thr d L) none (sem := semO b) (hsrc := hs) (hdst := hd)
    (srcw := (rM.slice (Rect.unit (s := S2x256x128) o1 S1x256x128.size p1) (fun _ => rfl)).squeeze S256x128 squeezes_S1x256x128_S256x128)
    (dstw := oM.slice (Rect.unit (s := S819200x128) o2 S256x128.size p2) (fun _ => rfl))
    (k := Prog.ret) none (N := NO) (hN := rfl)) $$ [HF HO]
  · isplitl [HF]; · iexact HF
    isplitl [HO]; · iexact HO
    iapply (MayWaits.elim _) $$ Hm
  iintro ⟨⟨HD, Hb⟩, Hv, HO⟩
  rw [wp_ret]; imodintro
  iapply Hk
  isplitl [HD]; · iexact HD
  isplitl [Hb Hv]
  · isplitl [Hb]; · iexact Hb
    iexact Hv
  · iexists _
    isplitr
    rotate_left
    · iexact HO
    · ipureintro
      intro p hp
      rcases Finset.mem_insert.mp hp with rfl | hp
      · exact Or.inr rfl
      · exact hW p hp

end Cert.Proof.Tile
-- ==== Proof.Gathers.lean ====
/-
  The two gathers of a trip and their waits.

  A trip starts two gathers on one counter, list 0 of the index slot into half 0 of the row slot and list 1 into half 1,
  and then waits twice. The rows of both are one batch: 256 deliveries of one row's credit each, the first wait taking
  half of the credits and the second, which has seen every delivery, giving both halves back.
-/
module

public import proofs.«01_k».proof.Proof.Steps

@[expose] public section

noncomputable section

namespace Cert.Proof.Tile

open Cert.KernelIdeal Cert.KernelIdeal.Gen
open Cert.Proof.Words Cert.Proof.GatherBatch
open Idealize.ShloMosaic
open Idealize.ShloMosaic.ValueIdx
open Idealize.ShloMosaic.SparseCore (S V T rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable (d : Dev nD) (L : grid0.Coords)
variable (fx : S6400x128.Idx → BitVec 32) (fT : S1000000x128.Idx → Elt F .f32) (hx : ∀ y, (fx y).toNat < 1000000)

/-- A gather of 128 rows of the table. -/
abbrev gath : S1000000x128.Gathers 0 S128x128 := gathers_S1000000x128_S128x128
theorem gath_pos : 0 < S128x128.size gath.axis' := by decide
/-- The credit of one gathered row. -/
abbrev NR : ℕ := ((halfR 0 0).slice (S128x128.rowRect gath.axis' ⟨0, gath_pos⟩) (S128x128.stride_rowRect gath.axis' ⟨0, gath_pos⟩)).view.dmaCredit

theorem NR_pos : 0 < NR := View.dmaCredit_pos (v := ((halfR 0 0).slice (S128x128.rowRect gath.axis' ⟨0, gath_pos⟩) (S128x128.stride_rowRect gath.axis' ⟨0, gath_pos⟩)).view) (by decide)
theorem half_credit : (halfR 0 0).view.dmaCredit = 128 * NR := by decide

include hx in
/-- The lists an index slot holding a block of the index array holds are in the table's range. -/
theorem lists_in {b : Fin 2} {n : Fin 3200} {f : S2x2x128.Idx → BitVec 32} (hf : HoldsI fx b n f) (j : Fin 2) :
    ∀ x, ((listI b j).view.read (Elt F) f x).toNat < S1000000x128.size gath.axis := fun x => by
  have h : (listI b j).view.read (Elt F) f x = fx ((blkX n).view.emb (ix2 j (x 0))) := by
    rw [← hf, emb_slotI]
    exact congrArg f (emb_listI b j x)
  rw [h]
  exact hx _

/-- What list `j`'s gather puts in half `j`. -/
theorem gathered {b : Fin 2} {n : Fin 3200} {f : S2x2x128.Idx → BitVec 32} (hf : HoldsI fx b n f) (j : Fin 2) (z : S128x128.Idx) :
    SparseCore.gatherPayload gath (allT.view.read (Elt F) fT) (rows ((listI b j).view.read (Elt F) f) rfl (lists_in fx hx hf j)) z
      = tgt fx fT hx ((blkO n).view.emb (ix2 ⟨128 * j.val + (z 0).val, half_lt j z⟩ (z 1))) := by
  have hr : (rows ((listI b j).view.read (Elt F) f) rfl (lists_in fx hx hf j) (z gath.axis')).val
      = (fx ((blkX n).view.emb (ix2 j (z 0)))).toNat := by
    rw [← hf, emb_slotI]
    show (f ((listI b j).view.emb (S128.rowMajor.symm ((z 0).cast rfl)))).toNat = _
    rw [emb_listI]
    have hz : (S128.rowMajor.symm ((z 0).cast rfl)) 0 = z 0 := by
      apply Fin.ext
      rw [← Shape.rowMajor_val_one (d := ![128]) (S128.rowMajor.symm ((z 0).cast rfl))]
      exact congrArg Fin.val (Equiv.apply_symm_apply S128.rowMajor _)
    rw [hz]; rfl
  show fT (allT.view.emb (gath.idx (rows ((listI b j).view.read (Elt F) f) rfl (lists_in fx hx hf j)) z)) = _
  rw [emb_allT, emb_blkO]
  unfold tgt
  have hn := n.isLt
  have hj := j.isLt
  have hz0 : (z 0).val < 128 := (z 0).isLt
  refine congrArg fT ?_
  funext a
  match a with
  | ⟨0, _⟩ =>
    refine (Shape.Gathers.idx_axis gath _ z).trans (Fin.ext (hr.trans ?_))
    show _ = (fx _).toNat
    rw [emb_blkX]
    congr 2
    funext a'
    match a' with
    | ⟨0, _⟩ => apply Fin.ext; show 2 * n.val + j.val = (256 * n.val + (128 * j.val + (z 0).val)) / 128; omega
    | ⟨1, _⟩ => apply Fin.ext; show (z 0).val = (256 * n.val + (128 * j.val + (z 0).val)) % 128; omega
  | ⟨1, h1⟩ => exact Fin.ext (Shape.Gathers.idx_of_ne gath _ z ⟨1, h1⟩ (by show ¬ (1 : ℕ) = 0; decide))

section
variable {b : Fin 2} {n : Fin 3200} {f : S2x2x128.Idx → BitVec 32} (hf : HoldsI fx b n f) (fr : S2x256x128.Idx → Elt F .f32) (q : PosShare TreeShare)

/-- What row `i` of gather `j` delivers. -/
abbrev delOf (j : Fin 2) : Fin 128 → sProp 𝕄 :=
  rowDel (thr d L) allT (halfR b j) gath (listI b j) rfl gath_pos (hq q j) fullShare fT fr f (lists_in fx hx hf j)
/-- The 256 deliveries of a trip's gathers. -/
def dels : Fin (128 + 128) → sProp 𝕄 := Fin.addCases (delOf d L fx fT hx hf fr q 0) (delOf d L fx fT hx hf fr q 1)

instance dels_storable (t : Fin (128 + 128)) : BI.Storable (upEmb : UEmb _ 𝕄) (dels d L fx fT hx hf fr q t) := by
  unfold dels
  refine Fin.addCases (fun i => ?_) (fun i => ?_) t
  · rw [Fin.addCases_left]; exact rowDel_storable ..
  · rw [Fin.addCases_right]; exact rowDel_storable ..

/-- The trip's batch with `j` rows started and `u` credits taken. -/
abbrev batch (j u : ℕ) : sProp 𝕄 := Batch (EC (F := F)) (thr d L) (.dma semG) none NR (dels d L fx fT hx hf fr q) j u

/-- What gather `j` borrows. -/
def lent (j : Fin 2) : sProp 𝕄 :=
  iprop((allT.view.loc (thr d L) ↦[allT.view.set]{hq q j} (fT : Buf (Elt F) ((tM).view.loc (thr d L))))
    ∗ ((halfR b j).view.loc (thr d L) ↦[(halfR b j).view.set]{fullShare} (fr : Buf (Elt F) ((rM).view.loc (thr d L))))
    ∗ ((listI b j).view.loc (thr d L) ↦[(listI b j).view.set]{fullShare} (f : Buf (Elt F) ((aM).view.loc (thr d L)))))

/-- What the two gathers borrow is the table's share, the row slot and the index slot. -/
theorem lent_split : iprop(tSh d L fT q ∗ ptR d L b fr ∗ ptI d L b f)
    ⊢ iprop(lent (F := F) d L fT (b := b) (f := f) fr q 0 ∗ lent (F := F) d L fT (b := b) (f := f) fr q 1) := by
  unfold lent
  rw [set_allT]
  iintro ⟨HT, HR, HI⟩
  ihave HT := (pointsTo_share (PosShare.mem_left_op_right q)).1 $$ HT
  icases HT with ⟨HT0, HT1⟩
  have hR := (pointsTo_union (ℓ := (slotR b).view.loc (thr d L)) (q := fullShare) (f := fr) (Ix := HIx 1) (Name := ℕ) (U := UU) (Lvl := ℕ) (halfR_disjoint b)).1
  have hI := (pointsTo_union (Val := Elt F) (ℓ := (slotI b).view.loc (thr d L)) (q := fullShare) (f := (f : Buf (Elt F) ((slotI b).view.loc (thr d L)))) (Ix := HIx 1) (Name := ℕ) (U := UU) (Lvl := ℕ) (listI_disjoint b)).1
  rw [halfR_union b] at hR
  rw [listI_union b] at hI
  ihave HR := hR $$ HR
  icases HR with ⟨HR0, HR1⟩
  ihave HI := hI $$ HI
  icases HI with ⟨HI0, HI1⟩
  isplitl [HT0 HR0 HI0]
  · isplitl [HT0]; · iexact HT0
    isplitl [HR0]; · iexact HR0
    iexact HI0
  · isplitl [HT1]; · iexact HT1
    isplitl [HR1]; · iexact HR1
    iexact HI1

/-- The batch of a trip, opened at the gathers' counter. -/
theorem batch_open : sem0 (F := F) d L semG ⊢ |={Set.univ}=> batch d L fx fT hx hf fr q 0 0 :=
  batch_alloc' (EC (F := F)) (thr d L) none NR _

/-- Starting gather `j`. -/
theorem step_gather (j : Fin 2) {o1 o2 : Fin 3 → ℕ} {o3 o4 : Fin 2 → ℕ}
    (h1 : o1 = ![b.val, 0, 0]) (h2 : o2 = ![b.val, 0, 0]) (h3 : o3 = ![128 * j.val, 0]) (h4 : o4 = ![j.val, 0])
    (p1 : ∀ a, o1 a + S1x256x128.size a ≤ S2x256x128.size a) (p2 : ∀ a, o2 a + S1x2x128.size a ≤ S2x2x128.size a)
    (p3 : ∀ a, o3 a + S128x128.size a ≤ S256x128.size a) (p4 : ∀ a, o4 a + S1x128.size a ≤ S2x128.size a) {hp hsrc he hsp hr} {Q : PUnit → sProp 𝕄} :
    iprop(lent (F := F) d L fT (b := b) (f := f) fr q j ∗ batch d L fx fT hx hf fr q (128 * j.val) 0)
      ⊢ iprop((batch d L fx fT hx hf fr q (128 * j.val + 128) 0 -∗ Q ⟨⟩)
      -∗ WP d L (SparseCore.enqueueIndirectGather hp (tM.slice (Rect.unit (s := S1000000x128) ![0, 0] S1000000x128.size inb_S1000000x128_S1000000x128_0_0) (fun _ => rfl))
          (((rM.slice (Rect.unit (s := S2x256x128) o1 S1x256x128.size p1) (fun _ => rfl)).squeeze S256x128 squeezes_S1x256x128_S256x128).slice
            (Rect.unit (s := S256x128) o3 S128x128.size p3) (fun _ => rfl)) gath
          ((((aM.slice (Rect.unit (s := S2x2x128) o2 S1x2x128.size p2) (fun _ => rfl)).squeeze S2x128 squeezes_S1x2x128_S2x128).slice
            (Rect.unit (s := S2x128) o4 S1x128.size p4) (fun _ => rfl)).squeeze S128 squeezes_S1x128_S128) rfl semG hsrc he hsp hr) Q) := by
  subst h1 h2 h3 h4
  unfold lent
  iintro ⟨⟨HT, HR, HI⟩, HB⟩ Hk
  have key := wp_gatherBatch (defs := defs₀ (F := F)) (EC (F := F)) 𝒱₀ (thr d L) none (src := allT) (dst := halfR b j) (hg := gath) (offs := listI b j) (hn := rfl)
    (sem := semG) (hp := hp) (hsrc := hsrc) (he := he) (hsp := hsp) (hr := hr) (k := Prog.ret) (Q := Q) (q := hq q j) (qo := fullShare) (fs := fT) (fd := fr) (fo := f)
    (D := dels d L fx fT hx hf fr q) (j := 128 * j.val) (u := 0) none NR (fun _ => rfl) gath_pos (lists_in fx hx hf j)
    (by revert j; decide) (Nat.zero_le _) (by
      intro i
      fin_cases j
      · refine Entails.of_eq ?_
        unfold dels
        exact (congrArg _ (show _ = Fin.castAdd 128 i from Fin.ext (by show 128 * 0 + i.val = i.val; omega))).trans (Fin.addCases_left i) |>.symm
      · refine Entails.of_eq ?_
        unfold dels
        exact (congrArg _ (show _ = Fin.natAdd 128 i from Fin.ext (by show 128 * 1 + i.val = 128 + i.val; omega))).trans (Fin.addCases_right i) |>.symm)
  iapply key $$ [HT HR HI HB]
  · isplitl [HT]; · iexact HT
    isplitl [HR]; · iexact HR
    isplitl [HI]; · iexact HI
    iexact HB
  iintro HB
  rw [wp_ret]; imodintro
  iapply Hk
  iexact HB

/-- The rows a trip leaves in its row slot. -/
def filled (n : Fin 3200) : S2x256x128.Idx → Elt F .f32 := fun y => tgt fx fT hx ((blkO n).view.emb (ix2 (y 1) (y 2)))

theorem filled_holds (b : Fin 2) (n : Fin 3200) : HoldsR fx fT hx b n (filled fx fT hx n) := fun z => by
  unfold filled
  rw [emb_slotR]
  exact congrArg (fun w => tgt fx fT hx ((blkO n).view.emb w)) (eq_ix2 z).symm

/-- The first of the two waits. -/
theorem step_half (O : CellTallies nD τ sig (HIx 1)) (W : Waits sig (HIx 1)) {o1 : Fin 3 → ℕ} {o3 : Fin 2 → ℕ}
    (p1 : ∀ a, o1 a + S1x256x128.size a ≤ S2x256x128.size a) (p3 : ∀ a, o3 a + S128x128.size a ≤ S256x128.size a) {hs hd} {Q : PUnit → sProp 𝕄} :
    iprop(MayWaits (thr d L) (none : HIx 1) O ∗ batch d L fx fT hx hf fr q 256 0 ∗ owesAt (F := F) d L O W)
      ⊢ iprop((batch d L fx fT hx hf fr q 256 (128 * NR) ∗ owesAt (F := F) d L O W -∗ Q ⟨⟩)
      -∗ WP d L (SparseCore.waitIndirectGather semG (tM.slice (Rect.unit (s := S1000000x128) ![0, 0] S1000000x128.size inb_S1000000x128_S1000000x128_0_0) (fun _ => rfl))
          (((rM.slice (Rect.unit (s := S2x256x128) o1 S1x256x128.size p1) (fun _ => rfl)).squeeze S256x128 squeezes_S1x256x128_S256x128).slice
            (Rect.unit (s := S256x128) o3 S128x128.size p3) (fun _ => rfl)) hs hd) Q) := by
  unfold owesAt
  iintro ⟨#Hm, HB, %W', %hW, HO⟩ Hk
  iapply (wp_waitBatchMulO (EC (F := F)) 𝒱₀ (thr d L) none (sem := semG) (hsrc := hs) (hdst := hd)
    (srcw := tM.slice (Rect.unit (s := S1000000x128) ![0, 0] S1000000x128.size inb_S1000000x128_S1000000x128_0_0) (fun _ => rfl))
    (dstw := ((rM.slice (Rect.unit (s := S2x256x128) o1 S1x256x128.size p1) (fun _ => rfl)).squeeze S256x128 squeezes_S1x256x128_S256x128).slice
            (Rect.unit (s := S256x128) o3 S128x128.size p3) (fun _ => rfl))
    (k := Prog.ret) none (N := NR) 128 (hJ := half_credit) (D := dels d L fx fT hx hf fr q) (j := 256) (u := 0) (by omega)) $$ [HB HO]
  · isplitl [HB]; · iexact HB
    isplitl [HO]; · iexact HO
    iapply (MayWaits.elim _) $$ Hm
  rw [Nat.zero_add]
  iintro ⟨HB, HO⟩
  rw [wp_ret]; imodintro
  iapply Hk
  isplitl [HB]; · iexact HB
  iexists _
  isplitr
  rotate_left
  · iexact HO
  · ipureintro
    intro p hp
    rcases Finset.mem_insert.mp hp with rfl | hp
    · exact Or.inr rfl
    · exact hW p hp

/-- One gather's deliveries: its half of the row slot filled, its share of the table and its list back. -/
theorem half_back (j : Fin 2) : bigSep Finset.univ (delOf d L fx fT hx hf fr q j) ⊢
    iprop(((halfR b j).view.loc (thr d L) ↦[(halfR b j).view.set]{fullShare} (filled fx fT hx n : Buf (Elt F) ((rM).view.loc (thr d L))))
      ∗ (allT.view.loc (thr d L) ↦[allT.view.set]{hq q j} (fT : Buf (Elt F) ((tM).view.loc (thr d L))))
      ∗ ((listI b j).view.loc (thr d L) ↦[(listI b j).view.set]{fullShare} (f : Buf (Elt F) ((aM).view.loc (thr d L))))) := by
  refine (rowDel_join (thr d L) allT (halfR b j) gath (listI b j) rfl gath_pos (hq q j) fullShare fT fr f (lists_in fx hx hf j)).trans ?_
  have hc : ∀ y ∈ (halfR b j).view.set, (halfR b j).view.write (Elt F) fr (SparseCore.gatherPayload gath (allT.view.read (Elt F) fT)
      (rows ((listI b j).view.read (Elt F) f) rfl (lists_in fx hx hf j))) Finset.univ y = filled fx fT hx n y := fun y hy => by
    obtain ⟨z, -, rfl⟩ := Finset.mem_map.mp hy
    refine (View.write_emb_of_mem _ _ (Finset.mem_univ z)).trans ((gathered fx fT hx hf j z).trans ?_)
    unfold filled
    rw [emb_halfR]
  iintro ⟨HR, HT, HI⟩
  isplitl [HR]
  · iapply (Entails.of_eq (pointsTo_congr hc)) $$ HR
  isplitl [HT]; · iexact HT
  iexact HI

/-- The two halves joined. -/
theorem dels_back : bigSep Finset.univ (dels d L fx fT hx hf fr q) ⊢
    iprop(ptR d L b (filled fx fT hx n) ∗ tSh d L fT q ∗ ptI d L b f) := by
  rw [bigSep_univ_equiv finSumFinEquiv (dels d L fx fT hx hf fr q), bigSep_univ_sum]
  have e0 : (fun i : Fin 128 => dels d L fx fT hx hf fr q (finSumFinEquiv (Sum.inl i))) = delOf d L fx fT hx hf fr q 0 := by
    funext i; rw [finSumFinEquiv_apply_left]; unfold dels; exact Fin.addCases_left i
  have e1 : (fun i : Fin 128 => dels d L fx fT hx hf fr q (finSumFinEquiv (Sum.inr i))) = delOf d L fx fT hx hf fr q 1 := by
    funext i; rw [finSumFinEquiv_apply_right]; unfold dels; exact Fin.addCases_right i
  rw [e0, e1]
  have hR := (pointsTo_union (ℓ := (slotR b).view.loc (thr d L)) (q := fullShare) (f := filled fx fT hx n) (Ix := HIx 1) (Name := ℕ) (U := UU) (Lvl := ℕ) (halfR_disjoint b)).2
  have hI := (pointsTo_union (Val := Elt F) (ℓ := (slotI b).view.loc (thr d L)) (q := fullShare) (f := (f : Buf (Elt F) ((slotI b).view.loc (thr d L)))) (Ix := HIx 1) (Name := ℕ) (U := UU) (Lvl := ℕ) (listI_disjoint b)).2
  rw [halfR_union b] at hR
  rw [listI_union b] at hI
  have b0 := half_back d L fx fT hx hf fr q 0
  have b1 := half_back d L fx fT hx hf fr q 1
  rw [set_allT] at b0 b1
  refine (BIClass.sep_mono b0 b1).trans ?_
  iintro ⟨⟨HR0, HT0, HI0⟩, HR1, HT1, HI1⟩
  isplitl [HR0 HR1]
  · iapply hR
    isplitl [HR0]; · iexact HR0
    iexact HR1
  isplitl [HT0 HT1]
  · iapply (pointsTo_share (PosShare.mem_left_op_right q)).2
    isplitl [HT0]; · iexact HT0
    iexact HT1
  · iapply hI
    isplitl [HI0]; · iexact HI0
    iexact HI1

/-- The second wait, after which both gathers are in. -/
theorem step_both (O : CellTallies nD τ sig (HIx 1)) (W : Waits sig (HIx 1)) {o1 : Fin 3 → ℕ} {o3 : Fin 2 → ℕ}
    (p1 : ∀ a, o1 a + S1x256x128.size a ≤ S2x256x128.size a) (p3 : ∀ a, o3 a + S128x128.size a ≤ S256x128.size a) {hs hd} {Q : PUnit → sProp 𝕄} :
    iprop(MayWaits (thr d L) (none : HIx 1) O ∗ batch d L fx fT hx hf fr q 256 (128 * NR) ∗ owesAt (F := F) d L O W)
      ⊢ iprop(((ptR d L b (filled fx fT hx n) ∗ tSh d L fT q ∗ ptI d L b f) ∗ sem0 d L semG ∗ owesAt (F := F) d L O W -∗ Q ⟨⟩)
      -∗ WP d L (SparseCore.waitIndirectGather semG (tM.slice (Rect.unit (s := S1000000x128) ![0, 0] S1000000x128.size inb_S1000000x128_S1000000x128_0_0) (fun _ => rfl))
          (((rM.slice (Rect.unit (s := S2x256x128) o1 S1x256x128.size p1) (fun _ => rfl)).squeeze S256x128 squeezes_S1x256x128_S256x128).slice
            (Rect.unit (s := S256x128) o3 S128x128.size p3) (fun _ => rfl)) hs hd) Q) := by
  unfold owesAt
  iintro ⟨#Hm, HB, %W', %hW, HO⟩ Hk
  iapply (wp_waitBatchAllO (EC (F := F)) 𝒱₀ (thr d L) none (sem := semG) (hsrc := hs) (hdst := hd)
    (srcw := tM.slice (Rect.unit (s := S1000000x128) ![0, 0] S1000000x128.size inb_S1000000x128_S1000000x128_0_0) (fun _ => rfl))
    (dstw := ((rM.slice (Rect.unit (s := S2x256x128) o1 S1x256x128.size p1) (fun _ => rfl)).squeeze S256x128 squeezes_S1x256x128_S256x128).slice
            (Rect.unit (s := S256x128) o3 S128x128.size p3) (fun _ => rfl))
    (k := Prog.ret) none (N := NR) (J := 128 * NR) (hJ := half_credit) NR_pos (D := dels d L fx fT hx hf fr q) (u := 128 * NR) (by omega)) $$ [HB HO]
  · isplitl [HB]; · iexact HB
    isplitl [HO]; · iexact HO
    iapply (MayWaits.elim _) $$ Hm
  iintro ⟨HD, Hv, HO⟩
  rw [wp_ret]; imodintro
  iapply Hk
  isplitl [HD]
  · iapply (dels_back d L fx fT hx hf fr q) $$ HD
  isplitl [Hv]; · iexact Hv
  iexists _
  isplitr
  rotate_left
  · iexact HO
  · ipureintro
    intro p hp
    rcases Finset.mem_insert.mp hp with rfl | hp
    · exact Or.inr rfl
    · exact hW p hp

end

end Cert.Proof.Tile
-- ==== Proof.Trip.lean ====
/-
  One trip of the tile's loop, and the loop.

  Trip `k` starts the fetch of the next index block, waits for its own, gathers its 256 rows by two gathers, starts the
  copy of them out, and waits for the copy of the trip before. The invariant carries the output's rows: those of the
  blocks before the last are the target's, the last one's are on their way, the rest are as they were.
-/
module

public import proofs.«01_k».proof.Proof.Gathers

@[expose] public section

noncomputable section

namespace Cert.Proof.Tile

open Cert.KernelIdeal Cert.KernelIdeal.Gen
open Cert.Proof.Words Cert.Proof.GatherBatch
open Idealize.ShloMosaic
open Idealize.ShloMosaic.ValueIdx
open Idealize.ShloMosaic.SparseCore (S V T rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable (d : Dev nD) (L : grid0.Coords)
variable (fx : S6400x128.Idx → BitVec 32) (fT : S1000000x128.Idx → Elt F .f32) (hx : ∀ y, (fx y).toNat < 1000000)
variable (q qT : PosShare TreeShare) (O : CellTallies nD τ sig (HIx 1)) (W : Waits sig (HIx 1)) (f0 : S819200x128.Idx → Elt F .f32)

/-- A side condition that holds is passed. -/
theorem step_assume {P : Prop} (dec : Decidable P) (h : P) {Q : PLift P → sProp 𝕄} :
    Q ⟨h⟩ ⊢ WP d L (Prog.lift (.assume P dec)) Q := by
  iintro HQ
  iapply (wp_assume (defs := defs₀ (F := F)) 𝒱₀ (thr d L) none Set.univ h (k := Prog.ret))
  rw [wp_ret]; imodintro
  iexact HQ

/-- The index slot of block `k`: the block's fetch is in flight, or there is no block `k`. -/
def slotAt (k : ℕ) : sProp 𝕄 := if h : k < 100 then busyI d L fx q (par k) (blk L k h) else idleI d L fx q (par k)

theorem part1 (k : Fin k0_t1_loop.trips) {Q : _ → sProp 𝕄} :
    idleI d L fx q (par (k.val + 1)) ⊢ iprop((slotAt d L fx q (k.val + 1) -∗
        Q ⟨chk3_ok k, chk2_ok k, chk1_ok L k, ivW k, Scalar.cmpi .eq (ivW k) 0#32, Scalar.cmpi .eq (ivW k) 99#32, curW L (wd k.val), prevW L (wd k.val), nextW L (wd k.val),
          Scalar.select (Scalar.andi (Scalar.andi (Scalar.cmpi .ne (curW L (wd k.val)) (nextW L (wd k.val)))
            (Scalar.xori (Scalar.cmpi .sge (ivW k) 99#32) 1#1)) 1#1) (Scalar.addi (wd (k.val + 1)) 1#32) (wd (k.val + 1)),
          Scalar.cmpi .ne (curW L (wd k.val)) (prevW L (wd k.val))⟩)
      -∗ WP d L (k0_part1 L tM (Memref.isWhole_whole _) xM (Memref.isWhole_whole _) oM (Memref.isWhole_whole _) aM (Memref.isWhole_whole _) cc0_scoped1
          rM (Memref.isWhole_whole _) cc0_scoped3 cc0_scoped4 (baseW L) 0#32 1#32 k (wd (k.val + 1)) (wd k.val) (wd k.val) (wd (k.val - 1)) (wd k.val)) Q) := by
  rw [k0_part1_eq_skeleton]; unfold k0_part1_skel
  dsimp only [WP, curW, prevW, nextW]
  iintro Hi Hk
  rw [wp_bind]; iapply (step_assume d L _ (chk3_ok k))
  rw [wp_bind]; iapply (step_assume d L _ (chk2_ok k))
  rw [wp_bind]; iapply (step_assume d L _ (chk1_ok L k))
  by_cases h : k.val < 99
  · rw [dif_pos ((cond1_iff L k).2 h), wp_bind]
    iapply (step_fetch d L fx q (par (k.val + 1)) (blk L (k.val + 1) (by omega)) (off4_eq k) (off5_eq L k h) (off6_eq k)) $$ Hi
    iintro HB
    rw [wp_pure]; imodintro
    iapply Hk
    unfold slotAt; rw [dif_pos (by omega)]
    iexact HB
  · rw [dif_neg (fun h' => h ((cond1_iff L k).1 h'))]
    rw [wp_pure]; imodintro
    iapply Hk
    unfold slotAt; rw [dif_neg (by omega)]
    iexact Hi

/-- Both gathers of block `n` in flight, from index slot `b` into row slot `b`. -/
def gathering (b : Fin 2) (n : Fin 3200) : sProp 𝕄 :=
  iprop(∃ f, ∃ hf : HoldsI fx b n f, ∃ fr, batch d L fx fT hx hf fr qT 256 0)

theorem part2 (k : Fin k0_t1_loop.trips) {w1 w2 w3 a5 a64 a66 a71 a96} {Q : PUnit → sProp 𝕄} :
    iprop(MayWaits (thr d L) (none : HIx 1) O ∗ busyI d L fx q (par k.val) (blk L k.val (k_lt k)) ∗ (∃ fr, ptR (F := F) d L (par k.val) fr) ∗ tSh d L fT qT
        ∗ sem0 d L semG ∗ owesAt (F := F) d L O W)
      ⊢ iprop((gathering d L fx fT hx qT (par k.val) (blk L k.val (k_lt k)) ∗ sem0 d L (semI (par k.val)) ∗ xSh d L fx (hq q (par k.val))
          ∗ owesAt (F := F) d L O W -∗ Q ⟨⟩)
      -∗ WP d L (k0_part2 L tM (Memref.isWhole_whole _) xM (Memref.isWhole_whole _) oM (Memref.isWhole_whole _) aM (Memref.isWhole_whole _) cc0_scoped1
          rM (Memref.isWhole_whole _) cc0_scoped3 cc0_scoped4 k (wd (k.val + 1)) (wd k.val) (wd k.val) (wd (k.val - 1)) (wd k.val) w3 w2 w1 a5 a64 a66 a71 a96) Q) := by
  rw [k0_part2_eq_skeleton]; unfold k0_part2_skel
  dsimp only [WP]
  iintro ⟨#Hm, HB, ⟨%fr, HR⟩, HT, Hv, HO⟩ Hk
  rw [dif_pos (k0_cond2_wd L k), ite_self, wp_bind]
  iapply (step_fetched d L fx q (par k.val) (blk L k.val (k_lt k)) O W (off9_eq k)) $$ [HB HO]
  · isplitr; · iexact Hm
    isplitl [HB]; · iexact HB
    iexact HO
  iintro ⟨⟨%f, %hf, HI⟩, Hs, Hx, HO⟩
  rw [wp_bind]
  imod (batch_open d L fx fT hx hf fr qT) $$ Hv with HB
  ihave Hl := (lent_split (F := F) d L fT (b := par k.val) (f := f) fr qT) $$ [HT HR HI]
  · isplitl [HT]; · iexact HT
    isplitl [HR]; · iexact HR
    iexact HI
  icases Hl with ⟨H0, H1⟩
  iapply (step_gather d L fx fT hx hf fr qT 0 (off10_eq k) (off11_eq k) rfl rfl) $$ [H0 HB]
  · isplitl [H0]; · iexact H0
    iexact HB
  iintro HB
  rw [wp_bind]
  iapply (step_gather d L fx fT hx hf fr qT 1 (off10_eq k) (off11_eq k) rfl rfl) $$ [H1 HB]
  · isplitl [H1]; · iexact H1
    iexact HB
  iintro HB
  rw [wp_pure]; imodintro
  iapply Hk
  unfold gathering
  isplitl [HB]
  · iexists f, hf, fr; iexact HB
  isplitl [Hs]; · iexact Hs
  isplitl [Hx]; · iexact Hx
  iexact HO

/-- The output's rows of blocks `lo` to `hi`, at contents `f`. -/
abbrev outRows (lo hi : ℕ) (f : S819200x128.Idx → Elt F .f32) : sProp 𝕄 := ptO d L (rowsO lo hi) f

theorem part3 (k : Fin k0_t1_loop.trips) {w1 w2 w3} {a66 a71 a76 : BitVec 32} {a64 a65 : BitVec 1} {Q : _ → sProp 𝕄} :
    iprop(MayWaits (thr d L) (none : HIx 1) O ∗ gathering d L fx fT hx qT (par k.val) (blk L k.val (k_lt k)) ∗ sem0 d L (semO (par k.val))
        ∗ outRows d L (base L + k.val) (base L + 100) f0 ∗ owesAt (F := F) d L O W)
      ⊢ iprop((busyR d L fx fT hx (par k.val) (blk L k.val (k_lt k)) ∗ (∃ f, ptI (F := F) d L (par k.val) f) ∗ tSh d L fT qT
          ∗ sem0 d L semG ∗ outRows d L (base L + (k.val + 1)) (base L + 100) f0 ∗ owesAt (F := F) d L O W
          -∗ Q ⟨Scalar.select (Scalar.andi (Scalar.ori (Scalar.cmpi .ne a66 a76) a65) 1#1) (Scalar.addi (wd k.val) 1#32) (wd k.val),
              Scalar.andi (Scalar.cmpi .ne a66 a71) (Scalar.xori a64 1#1)⟩)
      -∗ WP d L (k0_part3 L tM (Memref.isWhole_whole _) xM (Memref.isWhole_whole _) oM (Memref.isWhole_whole _) aM (Memref.isWhole_whole _) cc0_scoped1
          rM (Memref.isWhole_whole _) cc0_scoped3 cc0_scoped4 k (wd (k.val + 1)) (wd k.val) (wd k.val) (wd (k.val - 1)) (wd k.val) w3 w2 w1 a64 a65 a66 a71 a76) Q) := by
  have hk := k_lt k
  rw [k0_part3_eq_skeleton]; unfold k0_part3_skel
  dsimp only [WP]
  unfold gathering
  iintro ⟨#Hm, ⟨%f, %hf, %fr, HB⟩, Hv, Ho, HO⟩ Hk
  rw [wp_bind]
  iapply (step_half d L fx fT hx hf fr qT O W) $$ [HB HO]
  · isplitr; · iexact Hm
    isplitl [HB]; · iexact HB
    iexact HO
  iintro ⟨HB, HO⟩
  rw [wp_bind]
  iapply (step_both d L fx fT hx hf fr qT O W) $$ [HB HO]
  · isplitr; · iexact Hm
    isplitl [HB]; · iexact HB
    iexact HO
  iintro ⟨⟨HR, HT, HI⟩, HG, HO⟩
  rw [ite_self, dif_pos (k0_cond5_wd L k), wp_bind]
  have hcut := rowsO_cut (blk L k.val hk) (base L + 100) (by show base L + k.val < base L + 100; omega)
  have hsp := (pointsTo_union (Val := Elt F) (ℓ := (oM).view.loc (thr d L)) (q := fullShare) (f := f0) (Ix := HIx 1) (Name := ℕ) (U := UU) (Lvl := ℕ) hcut.2).1
  rw [hcut.1] at hsp
  ihave Ho := hsp $$ Ho
  icases Ho with ⟨Hb, Ho⟩
  iapply (step_out d L fx fT hx (par k.val) (blk L k.val hk) _ (filled_holds fx fT hx (par k.val) (blk L k.val hk)) f0 (off12_eq k) (off13_eq L k) (off14_eq k)) $$ [HR Hb Hv]
  · isplitl [HR]; · iexact HR
    isplitl [Hb]; · iexact Hb
    iexact Hv
  iintro HR
  rw [wp_pure]; imodintro
  iapply Hk
  isplitl [HR]; · iexact HR
  isplitl [HI]; · iexists _; iexact HI
  isplitl [HT]; · iexact HT
  isplitl [HG]; · iexact HG
  isplitl [Ho]; · iexact Ho
  iexact HO

/-- The row slot of the block before `k`: its copy out is in flight, or there is no block before. -/
def prevAt (k : ℕ) : sProp 𝕄 :=
  if h : 0 < k ∧ k - 1 < 100 then busyR d L fx fT hx (par (k - 1)) (blk L (k - 1) h.2) else idleR (F := F) d L (par (k + 1))

/-- The words a trip carries. -/
def words (k : ℕ) : BitVec 32 × BitVec 32 × BitVec 32 × BitVec 32 × BitVec 32 :=
  (wd (min (k + 1) 100), wd k, wd k, wd (k - 1), wd (k % 100))

/-- The loop's invariant before trip `k`. -/
def inv (k : ℕ) (acc : BitVec 32 × BitVec 32 × BitVec 32 × BitVec 32 × BitVec 32) : sProp 𝕄 :=
  iprop(⌜acc = words k⌝ ∗ MayWaits (thr d L) (none : HIx 1) O ∗ slotAt d L fx q k ∗ idleI d L fx q (par (k + 1)) ∗ prevAt d L fx fT hx k ∗ idleR (F := F) d L (par k)
    ∗ sem0 d L semG ∗ tSh d L fT qT ∗ outRows d L (base L + k) (base L + 100) f0 ∗ outRows d L (base L) (base L + (k - 1)) (tgt fx fT hx) ∗ owesAt (F := F) d L O W)

theorem par_two (k : ℕ) : par (k + 1 + 1) = par k := Fin.ext (by show (k + 1 + 1) % 2 = k % 2; omega)
theorem par_pred (k : ℕ) (h : 0 < k) : par (k - 1) = par (k + 1) := Fin.ext (by show (k - 1) % 2 = (k + 1) % 2; omega)

theorem words_step (k : Fin k0_t1_loop.trips) :
    (Scalar.select (Scalar.andi (Scalar.andi (Scalar.cmpi .ne (curW L (wd k.val)) (nextW L (wd k.val)))
        (Scalar.xori (Scalar.cmpi .sge (ivW k) 99#32) 1#1)) 1#1) (Scalar.addi (wd (k.val + 1)) 1#32) (wd (k.val + 1)),
      Scalar.select (Scalar.ori (Scalar.cmpi .ne (curW L (wd k.val)) (nextW L (wd k.val))) (Scalar.cmpi .eq (ivW k) 99#32)) (Scalar.addi (wd k.val) 1#32) (wd k.val),
      Scalar.select (Scalar.andi (Scalar.ori (Scalar.cmpi .ne (curW L (wd k.val)) (nextW L (wd k.val))) (Scalar.cmpi .eq (ivW k) 99#32)) 1#1)
        (Scalar.addi (wd k.val) 1#32) (wd k.val),
      Scalar.select (Scalar.andi (Scalar.andi (Scalar.cmpi .ne (curW L (wd k.val)) (prevW L (wd k.val)))
        (Scalar.xori (Scalar.cmpi .eq (ivW k) 0#32) 1#1)) 1#1) (Scalar.addi (wd (k.val - 1)) 1#32) (wd (k.val - 1)),
      Scalar.select (Scalar.cmpi .eq (Scalar.select 1#1 (Scalar.addi (wd k.val) 1#32) (wd k.val)) 100#32) 0#32
        (Scalar.select 1#1 (Scalar.addi (wd k.val) 1#32) (wd k.val))) = words (k.val + 1) := by
  rw [next6, next7, next8, next9, next10]; rfl

theorem slotAt_busy (k : ℕ) (h : k < 100) : slotAt (F := F) d L fx q k = busyI (F := F) d L fx q (par k) (blk L k h) := by
  unfold slotAt; exact dif_pos h

theorem prevAt_busy (k : ℕ) (h : 0 < k ∧ k - 1 < 100) : prevAt d L fx fT hx k = busyR d L fx fT hx (par (k - 1)) (blk L (k - 1) h.2) := by
  unfold prevAt; exact dif_pos h

theorem prevAt_idle : prevAt d L fx fT hx 0 = idleR (F := F) d L (par (0 + 1)) := by
  unfold prevAt; exact dif_neg (fun h => absurd h.1 (by decide))

/-- One trip keeps the invariant. -/
theorem trip (k : Fin k0_t1_loop.trips) (acc) :
    inv d L fx fT hx q qT O W f0 k.val acc
      ⊢ WP d L (k0_t1_body L tM (Memref.isWhole_whole _) xM (Memref.isWhole_whole _) oM (Memref.isWhole_whole _) aM (Memref.isWhole_whole _) cc0_scoped1
          rM (Memref.isWhole_whole _) cc0_scoped3 cc0_scoped4 (baseW L) k acc) (inv d L fx fT hx q qT O W f0 (k.val + 1)) := by
  have hk := k_lt k
  have hw : words k.val = (wd (k.val + 1), wd k.val, wd k.val, wd (k.val - 1), wd k.val) := by
    unfold words; rw [Nat.min_eq_left (by omega), Nat.mod_eq_of_lt hk]
  unfold inv
  iintro ⟨%hacc, #Hm, Hcur, Hnext, Hprev, HRs, HG, HT, Ho, Hdone, HO⟩
  ihave HRs := (show idleR (F := F) d L (par k.val) ⊢ iprop((∃ f, ptR (F := F) d L (par k.val) f) ∗ sem0 d L (semO (par k.val))) from Entails.of_eq rfl) $$ HRs
  icases HRs with ⟨HR, HsR⟩
  rw [hacc, hw]
  unfold k0_t1_body
  dsimp only [WP]
  rw [wp_bind]
  iapply (part1 d L fx q k) $$ Hnext
  iintro Hnext
  ihave Hcur := (Entails.of_eq (slotAt_busy (F := F) d L fx q k.val hk)) $$ Hcur
  rw [wp_bind]
  iapply (part2 d L fx fT hx q qT O W k (w1 := chk1_ok L k) (w2 := chk2_ok k) (w3 := chk3_ok k)) $$ [Hcur HR HT HG HO]
  · isplitr; · iexact Hm
    isplitl [Hcur]; · iexact Hcur
    isplitl [HR]; · iexact HR
    isplitl [HT]; · iexact HT
    isplitl [HG]; · iexact HG
    iexact HO
  iintro ⟨HB, HsI, HxI, HO⟩
  rw [wp_bind]
  iapply (part3 d L fx fT hx qT O W f0 k (w1 := chk1_ok L k) (w2 := chk2_ok k) (w3 := chk3_ok k)) $$ [HB HsR Ho HO]
  · isplitr; · iexact Hm
    isplitl [HB]; · iexact HB
    isplitl [HsR]; · iexact HsR
    isplitl [Ho]; · iexact Ho
    iexact HO
  iintro ⟨Hb, HI, HT, HG, Ho, HO⟩
  rw [ite_self]
  by_cases h : 0 < k.val
  · rw [dif_pos ((cond7_iff L k).2 h), wp_bind]
    ihave Hprev := (Entails.of_eq (prevAt_busy d L fx fT hx k.val ⟨h, by omega⟩)) $$ Hprev
    iapply (step_outed d L fx fT hx (par (k.val - 1)) (blk L (k.val - 1) (by omega)) O W (off17_eq k)) $$ [Hprev HO]
    · isplitr; · iexact Hm
      isplitl [Hprev]; · iexact Hprev
      iexact HO
    iintro ⟨Hd, Hi, HO⟩
    rw [wp_pure]; imodintro
    have hcut := rowsO_snoc (blk L (k.val - 1) (by omega)) (base L) (by show base L ≤ base L + (k.val - 1); omega)
    have hsp := (pointsTo_union (Val := Elt F) (ℓ := (oM).view.loc (thr d L)) (q := fullShare) (f := tgt fx fT hx) (Ix := HIx 1) (Name := ℕ) (U := UU) (Lvl := ℕ) hcut.2).2
    rw [hcut.1, show (blk L (k.val - 1) (by omega)).val + 1 = base L + (k.val + 1 - 1) by show base L + (k.val - 1) + 1 = _; omega] at hsp
    isplitr; · ipureintro; exact words_step L k
    isplitr; · iexact Hm
    isplitl [Hnext]; · iexact Hnext
    isplitl [HI HsI HxI]
    · iapply (show idleI (F := F) d L fx q (par k.val) ⊢ idleI (F := F) d L fx q (par (k.val + 1 + 1)) from Entails.of_eq (by rw [par_two]))
      iapply (show iprop((∃ f, ptI (F := F) d L (par k.val) f) ∗ sem0 d L (semI (par k.val)) ∗ xSh (F := F) d L fx (hq q (par k.val))) ⊢ idleI (F := F) d L fx q (par k.val) from Entails.of_eq rfl)
      isplitl [HI]; · iexact HI
      isplitl [HsI]; · iexact HsI
      iexact HxI
    isplitl [Hb]
    · iapply (show busyR d L fx fT hx (par k.val) (blk L k.val (k_lt k)) ⊢ prevAt d L fx fT hx (k.val + 1) from
        Entails.of_eq (prevAt_busy d L fx fT hx (k.val + 1) ⟨by omega, hk⟩).symm)
      iexact Hb
    isplitl [Hi]
    · iapply (show idleR (F := F) d L (par (k.val - 1)) ⊢ idleR (F := F) d L (par (k.val + 1)) from Entails.of_eq (by rw [par_pred _ h]))
      iexact Hi
    isplitl [HG]; · iexact HG
    isplitl [HT]; · iexact HT
    isplitl [Ho]; · iexact Ho
    isplitl [Hdone Hd]
    · iapply hsp
      isplitl [Hdone]; · iexact Hdone
      iexact Hd
    iexact HO
  · rw [dif_neg (fun h' => h ((cond7_iff L k).1 h'))]
    have h0 : k.val = 0 := by omega
    rw [wp_pure]; imodintro
    isplitr; · ipureintro; exact words_step L k
    isplitr; · iexact Hm
    isplitl [Hnext]; · iexact Hnext
    isplitl [HI HsI HxI]
    · iapply (show idleI (F := F) d L fx q (par k.val) ⊢ idleI (F := F) d L fx q (par (k.val + 1 + 1)) from Entails.of_eq (by rw [par_two]))
      iapply (show iprop((∃ f, ptI (F := F) d L (par k.val) f) ∗ sem0 d L (semI (par k.val)) ∗ xSh (F := F) d L fx (hq q (par k.val))) ⊢ idleI (F := F) d L fx q (par k.val) from Entails.of_eq rfl)
      isplitl [HI]; · iexact HI
      isplitl [HsI]; · iexact HsI
      iexact HxI
    isplitl [Hb]
    · iapply (show busyR d L fx fT hx (par k.val) (blk L k.val (k_lt k)) ⊢ prevAt d L fx fT hx (k.val + 1) from
        Entails.of_eq (prevAt_busy d L fx fT hx (k.val + 1) ⟨by omega, hk⟩).symm)
      iexact Hb
    isplitl [Hprev]
    · iapply (show prevAt d L fx fT hx k.val ⊢ idleR (F := F) d L (par (k.val + 1)) from Entails.of_eq (by rw [h0]; exact prevAt_idle d L fx fT hx))
      iexact Hprev
    isplitl [HG]; · iexact HG
    isplitl [HT]; · iexact HT
    isplitl [Ho]; · iexact Ho
    isplitl [Hdone]
    · iapply (show outRows d L (base L) (base L + (k.val - 1)) (tgt fx fT hx) ⊢ outRows d L (base L) (base L + (k.val + 1 - 1)) (tgt fx fT hx) from
        Entails.of_eq (by rw [show k.val + 1 - 1 = k.val - 1 by omega]))
      iexact Hdone
    iexact HO

end Cert.Proof.Tile
-- ==== Proof.Run.lean ====
/-
  The whole run of a tile: the first index block's fetch, the loop over its hundred blocks, the wait for the last copy
  out. What comes back is what went in, the tile's rows of the output now the target's.
-/
module

public import proofs.«01_k».proof.Proof.Trip

@[expose] public section

noncomputable section

namespace Cert.Proof.Tile

open Cert.KernelIdeal Cert.KernelIdeal.Gen
open Cert.Proof.Words Cert.Proof.GatherBatch
open Idealize.ShloMosaic
open Idealize.ShloMosaic.ValueIdx
open Idealize.ShloMosaic.SparseCore (S V T rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

variable (d : Dev nD) (L : grid0.Coords)
variable (fx : S6400x128.Idx → BitVec 32) (fT : S1000000x128.Idx → Elt F .f32) (hx : ∀ y, (fx y).toNat < 1000000)
variable (q qT : PosShare TreeShare) (O : CellTallies nD τ sig (HIx 1)) (W : Waits sig (HIx 1)) (f0 : S819200x128.Idx → Elt F .f32)

/-- The opening part: the first block's fetch is started. -/
theorem part4 {Q : BitVec 32 → sProp 𝕄} :
    idleI d L fx q 0 ⊢ iprop((slotAt d L fx q 0 -∗ Q (baseW L))
      -∗ WP d L (k0_part4 L tM (Memref.isWhole_whole _) xM (Memref.isWhole_whole _) oM (Memref.isWhole_whole _) aM (Memref.isWhole_whole _) cc0_scoped1
          rM (Memref.isWhole_whole _) cc0_scoped3 cc0_scoped4) Q) := by
  rw [k0_part4_eq_skeleton]; unfold k0_part4_skel
  dsimp only [WP, baseW]
  iintro Hi Hk
  rw [wp_bind]
  iapply (step_fetch d L fx q 0 (blk L 0 (by omega)) k0_off1_eq (off2_eq L) k0_off3_eq) $$ Hi
  iintro HB
  rw [wp_pure]; imodintro
  iapply Hk
  iapply (Entails.of_eq (slotAt_busy (F := F) d L fx q 0 (by omega)).symm)
  iexact HB

/-- What the loop leaves. -/
theorem words_last : words 100 = (wd 100, wd 100, wd 100, wd 99, wd 0) := rfl

/-- The loop: from the invariant before the first trip to the invariant after the last. -/
theorem part5 {Q : _ → sProp 𝕄} :
    inv d L fx fT hx q qT O W f0 0 (words 0)
      ⊢ iprop((inv d L fx fT hx q qT O W f0 100 (words 100) -∗ Q ⟨wd 99, wd 0, chk5_ok L, chk4_ok⟩)
      -∗ WP d L (k0_part5 L tM (Memref.isWhole_whole _) xM (Memref.isWhole_whole _) oM (Memref.isWhole_whole _) aM (Memref.isWhole_whole _) cc0_scoped1
          rM (Memref.isWhole_whole _) cc0_scoped3 cc0_scoped4 (baseW L)) Q) := by
  rw [k0_part5_eq_skeleton]; unfold k0_part5_skel
  dsimp only [WP]
  iintro HI Hk
  iapply (Scf.wp_for_bind frame (wpE (defs₀ (F := F)) 𝒱₀ (thr d L) none) Set.univ k0_t1_loop.lb k0_t1_loop.ub k0_t1_loop.st k0_t1_ok _ _
    (inv d L fx fT hx q qT O W f0) (trip d L fx fT hx q qT O W f0)) $$ HI
  iintro %acc HI
  rw [show Scf.trips k0_t1_loop.lb k0_t1_loop.ub k0_t1_loop.st = 100 from trips_eq]
  ihave HI := (show inv d L fx fT hx q qT O W f0 100 acc ⊢ iprop(⌜acc = (wd 100, wd 100, wd 100, wd 99, wd 0)⌝ ∗ inv d L fx fT hx q qT O W f0 100 acc) from by
    unfold inv; iintro ⟨%h, H⟩; isplitr; · ipureintro; exact h
    isplitr; · ipureintro; exact h
    iexact H) $$ HI
  icases HI with ⟨%hacc, HI⟩
  subst hacc
  rw [wp_bind]; iapply (step_assume d L _ (chk5_ok L))
  rw [wp_bind]; iapply (step_assume d L _ chk4_ok)
  rw [wp_pure]; imodintro
  iapply Hk
  iexact HI

/-- What a tile holds with nothing in flight, its output rows at contents `f`. -/
def atRest (f : S819200x128.Idx → Elt F .f32) : sProp 𝕄 :=
  iprop(idleI d L fx q 0 ∗ idleI d L fx q 1 ∗ idleR (F := F) d L 0 ∗ idleR (F := F) d L 1 ∗ sem0 d L semG ∗ tSh d L fT qT
    ∗ outRows d L (base L) (base L + 100) f ∗ owesAt (F := F) d L O W)

theorem outRows_nil (lo : ℕ) (f : S819200x128.Idx → Elt F .f32) : outRows d L lo lo f = (iprop(emp) : sProp 𝕄) := by
  unfold outRows ptO; rw [rowsO_empty]; exact pointsTo_empty

/-- The tile's run: its output rows become the target's, all else comes back. -/
theorem tile_run :
    iprop(MayWaits (thr d L) (none : HIx 1) O ∗ atRest d L fx fT q qT O W f0)
      ⊢ WP d L (cc0_k L tM (Memref.isWhole_whole _) xM (Memref.isWhole_whole _) oM (Memref.isWhole_whole _) aM (Memref.isWhole_whole _) cc0_scoped1
          rM (Memref.isWhole_whole _) cc0_scoped3 cc0_scoped4) fun _ => atRest d L fx fT q qT O W (tgt fx fT hx) := by
  rw [cc0_k_eq_skeleton]; unfold cc0_k_skel atRest
  dsimp only [WP]
  iintro ⟨#Hm, HI0, HI1, HR0, HR1, HG, HT, Ho, HO⟩
  rw [wp_bind]
  iapply (part4 d L fx q) $$ HI0
  iintro HB
  rw [wp_bind]
  iapply (part5 d L fx fT hx q qT O W f0) $$ [HB HI1 HR0 HR1 HG HT Ho HO]
  · unfold inv
    isplitr; · ipureintro; rfl
    isplitr; · iexact Hm
    isplitl [HB]; · iexact HB
    isplitl [HI1]; · iexact HI1
    isplitl [HR1]
    · iapply (Entails.of_eq (prevAt_idle (F := F) d L fx fT hx).symm); iexact HR1
    isplitl [HR0]; · iexact HR0
    isplitl [HG]; · iexact HG
    isplitl [HT]; · iexact HT
    isplitl [Ho]; · iexact Ho
    isplitr; · iapply (Entails.of_eq (outRows_nil (F := F) d L (base L) (tgt fx fT hx)).symm); iempintro
    iexact HO
  iintro HI
  ihave HI := (show inv d L fx fT hx q qT O W f0 100 (words 100) ⊢ iprop(slotAt d L fx q 100 ∗ idleI d L fx q 1 ∗ prevAt d L fx fT hx 100 ∗ idleR (F := F) d L 0
      ∗ sem0 d L semG ∗ tSh d L fT qT ∗ outRows d L (base L) (base L + 99) (tgt fx fT hx) ∗ owesAt (F := F) d L O W) from by
    unfold inv
    iintro ⟨-, -, H1, H2, H3, H4, H5, H6, -, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8) $$ HI
  icases HI with ⟨HI0, HI1, HP, HR0, HG, HT, Ho, HO⟩
  ihave HI0 := (show slotAt d L fx q 100 ⊢ idleI (F := F) d L fx q 0 from Entails.of_eq (by unfold slotAt; exact dif_neg (by decide))) $$ HI0
  ihave HP := (Entails.of_eq (prevAt_busy d L fx fT hx 100 (by omega))) $$ HP
  rw [wp_bind]
  iapply (step_outed d L fx fT hx 1 (blk L 99 (by omega)) O W off20_eq) $$ [HP HO]
  · isplitr; · iexact Hm
    isplitl [HP]; · iexact HP
    iexact HO
  iintro ⟨Hd, HR1, HO⟩
  rw [wp_pure]; imodintro
  have hcut := rowsO_snoc (blk L 99 (by omega)) (base L) (by show base L ≤ base L + 99; omega)
  have hsp := (pointsTo_union (Val := Elt F) (ℓ := (oM).view.loc (thr d L)) (q := fullShare) (f := tgt fx fT hx) (Ix := HIx 1) (Name := ℕ) (U := UU) (Lvl := ℕ) hcut.2).2
  rw [hcut.1, show (blk L 99 (by omega)).val + 1 = base L + 100 from rfl] at hsp
  isplitl [HI0]; · iexact HI0
  isplitl [HI1]; · iexact HI1
  isplitl [HR0]; · iexact HR0
  isplitl [HR1]; · iexact HR1
  isplitl [HG]; · iexact HG
  isplitl [HT]; · iexact HT
  isplitl [Ho Hd]
  · iapply hsp
    isplitl [Ho]; · iexact Ho
    iexact Hd
  iexact HO

end Cert.Proof.Tile
-- ==== Proof.Tile.lean ====
/-
  The tile as the launch hands it its own storage: its scratch buffers and its counters are taken apart into the slots
  and the five semaphores the run is stated over, and put back after it.
-/
module

public import proofs.«01_k».proof.Proof.Run

@[expose] public section

noncomputable section

namespace Cert.Proof.Tile

open Cert.KernelIdeal Cert.KernelIdeal.Gen
open Cert.Proof.Words Cert.Proof.GatherBatch
open Idealize.ShloMosaic
open Idealize.ShloMosaic.ValueIdx
open Idealize.ShloMosaic.SparseCore (S V T rows)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

variable (d : Dev nD) (L : grid0.Coords)

/-! ## The counters -/

/-- The cell of a semaphore of the tile. -/
abbrev cell (s : DmaSem sig) : GSem nD τ sig := (thr d L, SemLoc.dma s)

theorem cell_ne {s t : DmaSem sig} (h : (SemLoc.dma s : SemLoc sig) ≠ .dma t) : cell d L s ≠ cell d L t := fun e => h (congrArg Prod.snd e)

theorem cell_mem {s : DmaSem sig} (h : (SemLoc.dma s : SemLoc sig).isScoped .scVector = true) : cell d L s ∈ ownCells (thr d L) :=
  mem_ownCells.mpr ⟨rfl, h⟩

theorem scI (b : Fin 2) : (SemLoc.dma (semI b) : SemLoc sig).isScoped .scVector = true := by revert b; decide
theorem scO (b : Fin 2) : (SemLoc.dma (semO b) : SemLoc sig).isScoped .scVector = true := by revert b; decide
theorem scG : (SemLoc.dma semG : SemLoc sig).isScoped .scVector = true := by decide
theorem ne_II : (SemLoc.dma (semI 1) : SemLoc sig) ≠ .dma (semI 0) := by decide
theorem ne_OO : (SemLoc.dma (semO 1) : SemLoc sig) ≠ .dma (semO 0) := by decide
theorem ne_OI (b c : Fin 2) : (SemLoc.dma (semO b) : SemLoc sig) ≠ .dma (semI c) := by revert b c; decide
theorem ne_GI (b : Fin 2) : (SemLoc.dma semG : SemLoc sig) ≠ .dma (semI b) := by revert b; decide
theorem ne_GO (b : Fin 2) : (SemLoc.dma semG : SemLoc sig) ≠ .dma (semO b) := by revert b; decide

/-- The tile's other cells. -/
abbrev cells' : Finset (GSem nD τ sig) :=
  (((((ownCells (thr d L)).erase (cell d L (semI 0))).erase (cell d L (semI 1))).erase (cell d L (semO 0))).erase (cell d L (semO 1))).erase (cell d L semG)

/-- The five semaphores are among the tile's own counters. -/
theorem ownSems_split :
    (ownSems0 (thr d L) : sProp 𝕄)
      = iprop(sem0 d L (semI 0) ∗ sem0 d L (semI 1) ∗ sem0 d L (semO 0) ∗ sem0 d L (semO 1) ∗ sem0 d L semG ∗ bigSep (cells' d L) fun g => semVal g 0) := by
  unfold SparseCore.Cfg.ownSems0
  rw [SparseCore.bigSep_erase' (cell_mem d L (scI 0)),
    SparseCore.bigSep_erase' (Finset.mem_erase.mpr ⟨cell_ne d L ne_II, cell_mem d L (scI 1)⟩),
    SparseCore.bigSep_erase' (Finset.mem_erase.mpr ⟨cell_ne d L (ne_OI 0 1), Finset.mem_erase.mpr ⟨cell_ne d L (ne_OI 0 0), cell_mem d L (scO 0)⟩⟩),
    SparseCore.bigSep_erase' (Finset.mem_erase.mpr ⟨cell_ne d L ne_OO, Finset.mem_erase.mpr ⟨cell_ne d L (ne_OI 1 1),
      Finset.mem_erase.mpr ⟨cell_ne d L (ne_OI 1 0), cell_mem d L (scO 1)⟩⟩⟩),
    SparseCore.bigSep_erase' (Finset.mem_erase.mpr ⟨cell_ne d L (ne_GO 1), Finset.mem_erase.mpr ⟨cell_ne d L (ne_GO 0),
      Finset.mem_erase.mpr ⟨cell_ne d L (ne_GI 1), Finset.mem_erase.mpr ⟨cell_ne d L (ne_GI 0), cell_mem d L scG⟩⟩⟩⟩)]

/-! ## The scratch buffers -/

abbrev refI : DevRef τ sig := (Proc.scVector (cV L) (jV L)).devRef cc0_scoped0
abbrev refR : DevRef τ sig := (Proc.scVector (cV L) (jV L)).devRef cc0_scoped2

/-- The two scratch buffers are among the tile's own. -/
theorem ownBufs_split :
    (ownBufs (thr d L) : sProp 𝕄)
      = iprop((∃ f, (aM).view.loc (thr d L) ↦{fullShare} f) ∗ (∃ f, (rM).view.loc (thr d L) ↦{fullShare} f)
          ∗ bigSep (((ownRefs (τ := τ) (.scVector (cV L) (jV L))).erase (refI L)).erase (refR L)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := refI L) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := refR L) rfl⟩)]

/-- The index scratch is its two slots. -/
theorem slotsI (f : Buf (Elt F) ((aM).view.loc (thr d L))) :
    ((aM).view.loc (thr d L) ↦{fullShare} f : sProp 𝕄) ⊢ iprop(ptI d L 0 f ∗ ptI d L 1 f) := by
  have h := (pointsTo_union (Val := Elt F) (ℓ := (aM).view.loc (thr d L)) (q := fullShare) (f := f) (Ix := HIx 1) (Name := ℕ) (U := UU) (Lvl := ℕ) slotI_disjoint).1
  rw [slotI_union] at h; exact h
theorem slotsR (f : Buf (Elt F) ((rM).view.loc (thr d L))) :
    ((rM).view.loc (thr d L) ↦{fullShare} f : sProp 𝕄) ⊢ iprop(ptR d L 0 f ∗ ptR d L 1 f) := by
  have h := (pointsTo_union (Val := Elt F) (ℓ := (rM).view.loc (thr d L)) (q := fullShare) (f := f) (Ix := HIx 1) (Name := ℕ) (U := UU) (Lvl := ℕ) slotR_disjoint).1
  rw [slotR_union] at h; exact h

/-- The two slots, whatever each holds, are the index scratch at some contents. -/
theorem slotsI_join : iprop((∃ f, ptI (F := F) d L 0 f) ∗ ∃ f, ptI (F := F) d L 1 f) ⊢ (iprop(∃ f, (aM).view.loc (thr d L) ↦{fullShare} f) : sProp 𝕄) := by
  classical
  iintro ⟨⟨%f, H0⟩, %g, H1⟩
  have hj := (pointsTo_union (Val := Elt F) (ℓ := (aM).view.loc (thr d L)) (q := fullShare)
    (f := (fun y => if y ∈ (slotI 0).view.set then f y else g y : Buf (Elt F) ((aM).view.loc (thr d L)))) (Ix := HIx 1) (Name := ℕ) (U := UU) (Lvl := ℕ) slotI_disjoint).2
  rw [slotI_union] at hj
  iexists _
  iapply hj
  isplitl [H0]
  · iapply (Entails.of_eq (pointsTo_congr (fun y hy => (if_pos hy).symm))); iexact H0
  · iapply (Entails.of_eq (pointsTo_congr (fun y hy => (if_neg (fun h => Finset.disjoint_left.mp slotI_disjoint h hy)).symm))); iexact H1
theorem slotsR_join : iprop((∃ f, ptR (F := F) d L 0 f) ∗ ∃ f, ptR (F := F) d L 1 f) ⊢ (iprop(∃ f, (rM).view.loc (thr d L) ↦{fullShare} f) : sProp 𝕄) := by
  classical
  iintro ⟨⟨%f, H0⟩, %g, H1⟩
  have hj := (pointsTo_union (Val := Elt F) (ℓ := (rM).view.loc (thr d L)) (q := fullShare)
    (f := (fun y => if y ∈ (slotR 0).view.set then f y else g y : Buf (Elt F) ((rM).view.loc (thr d L)))) (Ix := HIx 1) (Name := ℕ) (U := UU) (Lvl := ℕ) slotR_disjoint).2
  rw [slotR_union] at hj
  iexists _
  iapply hj
  isplitl [H0]
  · iapply (Entails.of_eq (pointsTo_congr (fun y hy => (if_pos hy).symm))); iexact H0
  · iapply (Entails.of_eq (pointsTo_congr (fun y hy => (if_neg (fun h => Finset.disjoint_left.mp slotR_disjoint h hy)).symm))); iexact H1

variable [FloatOps F]
variable (fx : S6400x128.Idx → BitVec 32) (fT : S1000000x128.Idx → Elt F .f32) (hx : ∀ y, (fx y).toNat < 1000000)
variable (q qT : PosShare TreeShare) (O : CellTallies nD τ sig (HIx 1)) (W : Waits sig (HIx 1)) (f0 : S819200x128.Idx → Elt F .f32)

/-- A share of the index array is its two halves. -/
theorem xSh_split : xSh (F := F) d L fx q ⊢ iprop(xSh d L fx (hq q 0) ∗ xSh d L fx (hq q 1)) := (pointsTo_share (PosShare.mem_left_op_right q)).1
theorem xSh_join : iprop(xSh (F := F) d L fx (hq q 0) ∗ xSh d L fx (hq q 1)) ⊢ xSh d L fx q := (pointsTo_share (PosShare.mem_left_op_right q)).2

/-- The task of tile `L` of device `d`: from its shares, its rows of the output and its own storage, its rows at the
    target's values, all else as it was. -/
theorem tile_body (hF : (K (F := F)).Facts) (hO : ∀ g, O g none = 0) :
    iprop(levAts (K (F := F)).L (K (F := F)).lev ∗ emp
        ∗ (xSh d L fx q ∗ tSh d L fT qT ∗ outRows d L (base L) (base L + 100) f0)
        ∗ scopedBufs (thr d L) ∗ scopedSems0 (thr d L) ∗ owes (thr d L) O W)
      ⊢ wp frame (wpE (defs₀ (F := F)) 𝒱₀ (thr d L) none) Set.univ
          (cc0_k L tM (Memref.isWhole_whole _) xM (Memref.isWhole_whole _) oM (Memref.isWhole_whole _) aM (Memref.isWhole_whole _) cc0_scoped1
            rM (Memref.isWhole_whole _) cc0_scoped3 cc0_scoped4)
          fun _ => iprop((xSh d L fx q ∗ tSh d L fT qT ∗ outRows d L (base L) (base L + 100) (tgt fx fT hx))
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems_split, ownBufs_split]
  iintro ⟨#Hlv, -, ⟨Hx, HT, Ho⟩, ⟨⟨%fa, Ha⟩, ⟨%fr, Hr⟩, Hbufs⟩, ⟨HI0, HI1, HO0, HO1, HG, Hsems⟩, HO⟩
  ihave Hmw := (show levAts (K (F := F)).L (K (F := F)).lev ⊢ Transfers.MayWaits (thr d L) (none : HIx 1) O from
    (K (F := F)).mayWaits_none (thr := thr d L) hO) $$ Hlv
  ihave Ha := (slotsI d L fa) $$ Ha
  icases Ha with ⟨Ha0, Ha1⟩
  ihave Hr := (slotsR d L fr) $$ Hr
  icases Hr with ⟨Hr0, Hr1⟩
  ihave Hx := (xSh_split d L fx q) $$ Hx
  icases Hx with ⟨Hx0, Hx1⟩
  iapply (wp_wand_r Idealize.ShloMosaic.frame (wpE (defs₀ (F := F)) 𝒱₀ (thr d L) none) Set.univ)
  isplitl [Hmw Hx0 Hx1 HT Ho Ha0 Ha1 Hr0 Hr1 HI0 HI1 HO0 HO1 HG HO]
  · iapply (tile_run d L fx fT hx q qT O W f0)
    isplitl [Hmw]; · iexact Hmw
    unfold atRest idleI idleR owesAt
    isplitl [Ha0 HI0 Hx0]
    · isplitl [Ha0]; · iexists fa; iexact Ha0
      isplitl [HI0]; · iexact HI0
      iexact Hx0
    isplitl [Ha1 HI1 Hx1]
    · isplitl [Ha1]; · iexists fa; iexact Ha1
      isplitl [HI1]; · iexact HI1
      iexact Hx1
    isplitl [Hr0 HO0]
    · isplitl [Hr0]; · iexists fr; iexact Hr0
      iexact HO0
    isplitl [Hr1 HO1]
    · isplitl [Hr1]; · iexists fr; iexact Hr1
      iexact HO1
    isplitl [HG]; · iexact HG
    isplitl [HT]; · iexact HT
    isplitl [Ho]; · iexact Ho
    iexists W
    isplitr; · ipureintro; exact fun p hp => .inl hp
    iexact HO
  iintro %_ HA
  unfold atRest idleI idleR owesAt
  icases HA with ⟨⟨Ha0, HI0, Hx0⟩, ⟨Ha1, HI1, Hx1⟩, ⟨Hr0, HO0⟩, ⟨Hr1, HO1⟩, HG, HT, Ho, HO⟩
  isplitl [Hx0 Hx1 HT Ho]
  · isplitl [Hx0 Hx1]
    · iapply (xSh_join d L fx q)
      isplitl [Hx0]; · iexact Hx0
      iexact Hx1
    isplitl [HT]; · iexact HT
    iexact Ho
  isplitl [Ha0 Ha1 Hr0 Hr1 Hbufs]
  · isplitl [Ha0 Ha1]
    · iapply (slotsI_join d L)
      isplitl [Ha0]; · iexact Ha0
      iexact Ha1
    isplitl [Hr0 Hr1]
    · iapply (slotsR_join d L)
      isplitl [Hr0]; · iexact Hr0
      iexact Hr1
    iexact Hbufs
  isplitl [HI0 HI1 HO0 HO1 HG Hsems]
  · isplitl [HI0]; · iexact HI0
    isplitl [HI1]; · iexact HI1
    isplitl [HO0]; · iexact HO0
    isplitl [HO1]; · iexact HO1
    isplitl [HG]; · iexact HG
    iexact Hsems
  iexact HO

end Cert.Proof.Tile

end
-- ==== Proof.Launch.lean ====
/-
  The call as the launch sees it: what each SparseCore and each of its tiles is handed and hands back.

  Both arrays the tiles read go out as shares: half to each SparseCore, a sixteenth of that half to each of its tiles.
  The output goes out by rows: 1600 blocks of 256 rows to each SparseCore, 100 of those blocks to each tile, and comes back
  at the target's values.
-/
module

public import proofs.«01_k».proof.Proof.Tile
public import Idealize.ShloMosaic.Lib.ShareLeaves

@[expose] public section

noncomputable section

namespace Cert.Proof.Tile

open Cert.KernelIdeal Cert.KernelIdeal.Gen
open Cert.Proof.Words Cert.Proof.GatherBatch
open Idealize.ShloMosaic
open Idealize.ShloMosaic.ValueIdx
open Idealize.ShloMosaic.ShareLeaves (leaf pointsTo_leaves)
open Idealize.ShloMosaic.SparseCore (S V T rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

/-- Tile `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem base_coords (c : Fin 2) (i : Fin 16) : base (coordsV c i) = (i.val + 16 * c.val) * 100 := rfl

abbrev xL (d : Dev nD) : Loc nD τ sig := (SparseCore.T d).loc main_v1
abbrev tL (d : Dev nD) : Loc nD τ sig := (SparseCore.T d).loc main_v0
abbrev oL (d : Dev nD) : Loc nD τ sig := (SparseCore.T d).loc main_v2

variable (fx : Dev nD → S6400x128.Idx → BitVec 32) (fT : Dev nD → S1000000x128.Idx → Elt F .f32) (hx : ∀ d y, (fx d y).toNat < 1000000)
variable (f0 : Dev nD → S819200x128.Idx → Elt F .f32)

/-- What one SparseCore holds: its half of the two arrays, its rows of the output at `f`. -/
abbrev coreP (d : Dev nD) (c : Fin 2) (f : S819200x128.Idx → Elt F .f32) : sProp 𝕄 :=
  iprop((xL d ↦{hq fullShare c} (fx d : Buf (Elt F) (xL d))) ∗ (tL d ↦{hq fullShare c} (fT d : Buf (Elt F) (tL d)))
    ∗ oL d ↦[(rowsO (1600 * c.val) (1600 * c.val + 1600) : Finset (Idx (oL d)))]{fullShare} (f : Buf (Elt F) (oL d)))
/-- What one tile holds: its share of the two arrays, its rows of the output at `f`. -/
abbrev tileP (d : Dev nD) (c : Fin 2) (i : Fin 16) (f : S819200x128.Idx → Elt F .f32) : sProp 𝕄 :=
  iprop(xSh d (coordsV c i) (fx d) (leaf 4 (hq fullShare c) i) ∗ tSh d (coordsV c i) (fT d) (leaf 4 (hq fullShare c) i)
    ∗ outRows d (coordsV c i) (base (coordsV c i)) (base (coordsV c i) + 100) f)

/-- What the call's signals carry. -/
def P : (K (F := F)).Pay (nD := nD) (Val := Elt F) (Name := ℕ) (U := UU) where
  st := fun q d c => match q with | 0 => coreP fx fT d (Fin.cast nCore_zero c) (f0 d)
  dn := fun q d c => match q with | 0 => coreP fx fT d (Fin.cast nCore_zero c) (tgt (fx d) (fT d) (hx d))
  go := fun q d c i => match q with | 0 => tileP fx fT d (Fin.cast nCore_zero c) (Fin.cast nSub_zero i) (f0 d)
  td := fun q d c i => match q with | 0 => tileP fx fT d (Fin.cast nCore_zero c) (Fin.cast nSub_zero i) (tgt (fx d) (fT d) (hx d))
  x := fun _ _ => iprop(emp)

instance P_storable : (P (F := F) fx fT hx f0).IsStorable where
  st q d c := match q with
    | 0 => (inferInstance : BI.Storable (upEmb : UEmb _ 𝕄) (coreP fx fT d (Fin.cast nCore_zero c) (f0 d)))
  dn q d c := match q with
    | 0 => (inferInstance : BI.Storable (upEmb : UEmb _ 𝕄) (coreP fx fT d (Fin.cast nCore_zero c) (tgt (fx d) (fT d) (hx d))))
  go q d c i := match q with
    | 0 => (inferInstance : BI.Storable (upEmb : UEmb _ 𝕄) (tileP fx fT d (Fin.cast nCore_zero c) (Fin.cast nSub_zero i) (f0 d)))
  td q d c i := match q with
    | 0 => (inferInstance : BI.Storable (upEmb : UEmb _ 𝕄) (tileP fx fT d (Fin.cast nCore_zero c) (Fin.cast nSub_zero i) (tgt (fx d) (fT d) (hx d))))

/-! ## Cutting and joining -/

theorem core_disjoint : ∀ c ∈ (Finset.univ : Finset (Fin 2)), ∀ c' ∈ (Finset.univ : Finset (Fin 2)), c ≠ c' →
    Disjoint (rowsO (1600 * c.val) (1600 * c.val + 1600)) (rowsO (1600 * c'.val) (1600 * c'.val + 1600)) := by
  intro c _ c' _ h
  rw [Finset.disjoint_left]; intro y; rw [mem_rowsO, mem_rowsO]
  have : c.val ≠ c'.val := fun e => h (Fin.ext e)
  omega
theorem core_cover : ((Finset.univ : Finset (Fin 2)).biUnion fun c => rowsO (1600 * c.val) (1600 * c.val + 1600)) = Finset.univ := by
  ext y
  simp only [Finset.mem_biUnion, Finset.mem_univ, true_and, iff_true, mem_rowsO]
  have h : (y 0).val < 819200 := (y 0).isLt
  exact ⟨⟨(y 0).val / 256 / 1600, by omega⟩, by constructor <;> (dsimp only; omega)⟩
theorem tile_disjoint (c : Fin 2) : ∀ i ∈ (Finset.univ : Finset (Fin 16)), ∀ j ∈ (Finset.univ : Finset (Fin 16)), i ≠ j →
    Disjoint (rowsO (base (coordsV c i)) (base (coordsV c i) + 100)) (rowsO (base (coordsV c j)) (base (coordsV c j) + 100)) := by
  intro i _ j _ h
  rw [Finset.disjoint_left]; intro y; rw [mem_rowsO, mem_rowsO, base_coords, base_coords]
  have : i.val ≠ j.val := fun e => h (Fin.ext e)
  omega
theorem tile_cover (c : Fin 2) : ((Finset.univ : Finset (Fin 16)).biUnion fun i => rowsO (base (coordsV c i)) (base (coordsV c i) + 100))
    = rowsO (1600 * c.val) (1600 * c.val + 1600) := by
  ext y
  simp only [Finset.mem_biUnion, Finset.mem_univ, true_and, mem_rowsO, base_coords]
  constructor
  · rintro ⟨i, h⟩; have := i.isLt; omega
  · intro h
    exact ⟨⟨(y 0).val / 256 / 100 - 16 * c.val, by omega⟩, by constructor <;> (dsimp only; omega)⟩

/-- A whole array at a share is its two halves. -/
theorem halves {ℓ : Loc nD τ sig} (f : Buf (Elt F) ℓ) (q : PosShare TreeShare) :
    (bigSep Finset.univ fun c : Fin 2 => (ℓ ↦{hq q c} f : sProp 𝕄)) = (ℓ ↦{q} f) := by
  rw [BI.bigSep_fin_two]
  exact BI.Entails.antisymm (pointsTo_share (PosShare.mem_left_op_right q)).2 (pointsTo_share (PosShare.mem_left_op_right q)).1

/-- The two SparseCores' holdings are the three arrays whole. -/
theorem cores_eq (d : Dev nD) (f : S819200x128.Idx → Elt F .f32) :
    (bigSep Finset.univ fun c : Fin 2 => coreP fx fT d c f)
      = iprop((xL d ↦{fullShare} (fx d : Buf (Elt F) (xL d))) ∗ (tL d ↦{fullShare} (fT d : Buf (Elt F) (tL d)))
          ∗ oL d ↦{fullShare} (f : Buf (Elt F) (oL d))) := by
  rw [bigSep_sep', bigSep_sep', halves, halves,
    ← pointsTo_biUnion Finset.univ (ℓ := oL d) (fun c : Fin 2 => (rowsO (1600 * c.val) (1600 * c.val + 1600) : Finset (Idx (oL d)))) core_disjoint]
  rw [show ((Finset.univ : Finset (Fin 2)).biUnion fun c => (rowsO (1600 * c.val) (1600 * c.val + 1600) : Finset (Idx (oL d)))) = Finset.univ from core_cover]

/-- A whole array at a share is its sixteen leaves. -/
theorem sixteenths {ℓ : Loc nD τ sig} (f : Buf (Elt F) ℓ) (q : PosShare TreeShare) :
    (ℓ ↦{q} f : sProp 𝕄) = bigSep Finset.univ fun i : Fin 16 => ℓ ↦{leaf 4 q i} f := pointsTo_leaves Finset.univ f 4 q
theorem xSh_loc (d : Dev nD) (c : Fin 2) (i : Fin 16) (q : PosShare TreeShare) :
    (xSh d (coordsV c i) (fx d) q : sProp 𝕄) = (xL d ↦{q} (fx d : Buf (Elt F) (xL d))) := rfl
theorem tSh_loc (d : Dev nD) (c : Fin 2) (i : Fin 16) (q : PosShare TreeShare) :
    (tSh d (coordsV c i) (fT d) q : sProp 𝕄) = (tL d ↦{q} (fT d : Buf (Elt F) (tL d))) := rfl
theorem outRows_loc (d : Dev nD) (c : Fin 2) (i : Fin 16) (f : S819200x128.Idx → Elt F .f32) :
    (outRows d (coordsV c i) (base (coordsV c i)) (base (coordsV c i) + 100) f : sProp 𝕄)
      = (oL d ↦[(rowsO (base (coordsV c i)) (base (coordsV c i) + 100) : Finset (Idx (oL d)))]{fullShare} (f : Buf (Elt F) (oL d))) := rfl

/-- The sixteen tiles' holdings are their SparseCore's. -/
theorem tiles_eq (d : Dev nD) (c : Fin 2) (f : S819200x128.Idx → Elt F .f32) :
    (bigSep Finset.univ fun i : Fin 16 => tileP fx fT d c i f) = coreP fx fT d c f := by
  rw [bigSep_sep', bigSep_sep']
  have hX : (bigSep Finset.univ fun i : Fin 16 => (xSh d (coordsV c i) (fx d) (leaf 4 (hq fullShare c) i) : sProp 𝕄))
      = (xL d ↦{hq fullShare c} (fx d : Buf (Elt F) (xL d))) :=
    by rw [sixteenths (F := F) (ℓ := xL d) (fx d) (hq fullShare c)]
  have hT : (bigSep Finset.univ fun i : Fin 16 => (tSh d (coordsV c i) (fT d) (leaf 4 (hq fullShare c) i) : sProp 𝕄))
      = (tL d ↦{hq fullShare c} (fT d : Buf (Elt F) (tL d))) :=
    by rw [sixteenths (F := F) (ℓ := tL d) (fT d) (hq fullShare c)]
  have hO : (bigSep Finset.univ fun i : Fin 16 => (outRows d (coordsV c i) (base (coordsV c i)) (base (coordsV c i) + 100) f : sProp 𝕄))
      = (oL d ↦[(rowsO (1600 * c.val) (1600 * c.val + 1600) : Finset (Idx (oL d)))]{fullShare} (f : Buf (Elt F) (oL d))) := by
    rw [← tile_cover c]
    exact ((pointsTo_biUnion Finset.univ (ℓ := oL d)
      (fun i : Fin 16 => (rowsO (base (coordsV c i)) (base (coordsV c i) + 100) : Finset (Idx (oL d)))) (tile_disjoint c)).trans
      (bigSep_congr fun i _ => (outRows_loc d c i f).symm)).symm
  rw [hX, hT, hO]

theorem bigSep_nothing {I : Type} (s : Finset I) : (bigSep s fun _ => iprop(emp)) = (iprop(emp) : sProp 𝕄) := bigSep_emp_const s

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore deals its holdings to its tiles and takes theirs back. -/
theorem vecSplit : (K (F := F)).VecSplit' (P fx fT hx f0) 0 := by
  intro d c
  show coreP fx fT d (Fin.cast nCore_zero c) (f0 d) ⊢ |={Set.univ}=> iprop(
      (bigSep Finset.univ fun i : Fin ((K (F := F)).nSub 0) => tileP fx fT d (Fin.cast nCore_zero c) (Fin.cast nSub_zero i) (f0 d))
      ∗ ((bigSep Finset.univ fun i : Fin ((K (F := F)).nSub 0) => tileP fx fT d (Fin.cast nCore_zero c) (Fin.cast nSub_zero i) (tgt (fx d) (fT d) (hx d)))
          -∗ coreP fx fT d (Fin.cast nCore_zero c) (tgt (fx d) (fT d) (hx d))))
  rw [bigSep_tiles (F := F) (fun i => tileP fx fT d (Fin.cast nCore_zero c) i (f0 d)),
    bigSep_tiles (F := F) (fun i => tileP fx fT d (Fin.cast nCore_zero c) i (tgt (fx d) (fT d) (hx d))), tiles_eq, tiles_eq]
  iintro H; imodintro
  isplitl [H]; · iexact H
  iintro H; iexact H

theorem st_eq (d : Dev nD) : (bigSep Finset.univ fun c : Fin ((K (F := F)).nCore 0) => (P fx fT hx f0).st 0 d c)
    = iprop((xL d ↦{fullShare} (fx d : Buf (Elt F) (xL d))) ∗ (tL d ↦{fullShare} (fT d : Buf (Elt F) (tL d)))
        ∗ oL d ↦{fullShare} (f0 d : Buf (Elt F) (oL d))) :=
  (bigSep_cores (fun c => coreP fx fT d c (f0 d))).trans (cores_eq fx fT d (f0 d))
theorem dn_eq (d : Dev nD) : (bigSep Finset.univ fun c : Fin ((K (F := F)).nCore 0) => (P fx fT hx f0).dn 0 d c)
    = iprop((xL d ↦{fullShare} (fx d : Buf (Elt F) (xL d))) ∗ (tL d ↦{fullShare} (fT d : Buf (Elt F) (tL d)))
        ∗ oL d ↦{fullShare} (tgt (fx d) (fT d) (hx d) : Buf (Elt F) (oL d))) :=
  (bigSep_cores (fun c => coreP fx fT d c (tgt (fx d) (fT d) (hx d)))).trans (cores_eq fx fT d (tgt (fx d) (fT d) (hx d)))

/-! ## The tiles' obligation -/

section
variable [FloatOps F]

theorem defs₀_vector (c : Fin τ.nSC) (s : Fin τ.nSub) :
    defs₀ (F := F) (.scVector c s) 0 ()
      = SparseCore.onTile hcore0 hsub0 (fun c s => cc0_k (coordsV c s) tM (Memref.isWhole_whole _) xM (Memref.isWhole_whole _) oM (Memref.isWhole_whole _)
          aM (Memref.isWhole_whole _) cc0_scoped1 rM (Memref.isWhole_whole _) cc0_scoped3 cc0_scoped4) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call does its part. -/
theorem tileObl (hF : (K (F := F)).Facts) : (K (F := F)).TileObl (D (F := F)) 𝒱 (P fx fT hx f0) v₀ 0 := by
  intro d c i O W hO _ _
  simp only [show (P fx fT hx f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fx d) (fT d) (hx d) (leaf 4 (hq fullShare (Fin.cast nCore_zero c)) (Fin.cast nSub_zero i))
    (leaf 4 (hq fullShare (Fin.cast nCore_zero c)) (Fin.cast nSub_zero i)) O W (f0 d) hF hO).trans (wp_mono frame _ _ fun _ => obl_post)

end

/-! ## The launch's own resources -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P fx fT hx f0).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun th : Thread nD τ => bigSep Finset.univ fun q : Fin 1 => (P (F := F) fx fT hx f0).x q th) = bigSep Finset.univ fun _ => iprop(emp) from
    bigSep_congr fun _ _ => bigSep_univ_of_subsingleton (0 : Fin 1), bigSep_nothing]
  iempintro

end Cert.Proof.Tile

end
-- ==== Proof.Main.lean ====
/-
  The program on the TensorCore and its run: the table is padded to 128 columns and the indices are laid out as blocks, the
  SparseCores gather, the first 64 columns are kept and laid out as the result.
-/
module

public import proofs.«01_k».proof.Proof.Launch

@[expose] public section

noncomputable section

namespace Cert.Proof.Tile

open Cert.KernelIdeal Cert.KernelIdeal.Gen
open Cert.Proof.Words Cert.Proof.GatherBatch
open Idealize.ShloMosaic
open Idealize.ShloMosaic.ValueIdx
open Idealize.ShloMosaic.StableHlo
open Idealize.ShloMosaic.SparseCore (S V T rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 1) (Elt F) ℕ UU ℕ

/-! ## The arrays and the operations -/

abbrev a0' : DevRef τ sig := Proc.devRef .tc (main_arg0 : Ref sig .tc)
abbrev a1' : DevRef τ sig := Proc.devRef .tc (main_arg1 : Ref sig .tc)
abbrev c' : DevRef τ sig := Proc.devRef .tc (main_c : Ref sig .tc)
abbrev p' : DevRef τ sig := Proc.devRef .tc (main_call0_v0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev opC : HloOp τ sig (Elt F) := StableHlo.nullary main_c (constantI S_ 32 0#32)
abbrev opF : HloOp τ sig (Elt F) := StableHlo.TRef.unary (.of main_c : StableHlo.TRef sig ⟨S_, .i32⟩) main_call0.v0 (sitofp .f32)
abbrev opP : HloOp τ sig (Elt F) := StableHlo.TRef.binary (.of main_arg1 : StableHlo.TRef sig ⟨S1000000x64, .f32⟩) main_call0.v0 main_call0.v1
  (fun x v => pad S1000000x128 ![0, 0] ![0, 64] ![0, 0] x v pads_S1000000x64_S1000000x128_000_0640 h_S_)
abbrev opR : HloOp τ sig (Elt F) := StableHlo.reshape main_arg0 main_v1 (rfl : (.i32 : EltTy) = .i32) shapeCasts_S4096x200_S6400x128
abbrev opS : HloOp τ sig (Elt F) := StableHlo.unary main_v2 main_v3 ((extractStridedSlice S819200x64 ![0, 0] · slices_S819200x128_S819200x64_0_0) : (⟨S819200x128, .f32⟩ : BufTy).Contents (Elt F) → (⟨S819200x64, .f32⟩ : BufTy).Contents (Elt F))
abbrev opQ : HloOp τ sig (Elt F) := StableHlo.reshape main_v3 main_v4 (rfl : (.f32 : EltTy) = .f32) shapeCasts_S819200x64_S4096x200x64

/-- The TensorCore's arrays. -/
abbrev S9 : Finset (DevRef τ sig) := {a0', a1', c', p', v0', v1', v2', v3', v4'}

theorem hC : (opC (F := F)).bufs ⊆ S9 := show ({c'} : Finset (DevRef τ sig)) ⊆ S9 by decide
theorem hF' : (opF (F := F)).bufs ⊆ S9 := show ({c', p'} : Finset (DevRef τ sig)) ⊆ S9 by decide
theorem hP : (opP (F := F)).bufs ⊆ S9 := show ({a1', p', v0'} : Finset (DevRef τ sig)) ⊆ S9 by decide
theorem hR : (opR (F := F)).bufs ⊆ S9 := show ({a0', v1'} : Finset (DevRef τ sig)) ⊆ S9 by decide
theorem hS : (opS (F := F)).bufs ⊆ S9 := show ({v2', v3'} : Finset (DevRef τ sig)) ⊆ S9 by decide
theorem hQ' : (opQ (F := F)).bufs ⊆ S9 := show ({v3', v4'} : Finset (DevRef τ sig)) ⊆ S9 by decide

theorem held_S9 (d : Dev nD) (W : Valuation τ sig (Elt F)) :
    (held (T d) S9 W : sProp 𝕄)
      = iprop(((d, a0') ↦{fullShare} W a0') ∗ ((d, a1') ↦{fullShare} W a1') ∗ ((d, c') ↦{fullShare} W c') ∗ ((d, p') ↦{fullShare} W p')
          ∗ ((d, v0') ↦{fullShare} W v0') ∗ ((d, v1') ↦{fullShare} W v1') ∗ ((d, v2') ↦{fullShare} W v2') ∗ ((d, v3') ↦{fullShare} W v3')
          ∗ ((d, v4') ↦{fullShare} W v4')) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop(((d, a0') ↦{fullShare} W main_arg0) ∗ ((d, a1') ↦{fullShare} W main_arg1) ∗ ((d, c') ↦{fullShare} W main_c)
          ∗ ((d, p') ↦{fullShare} W main_call0_v0) ∗ ((d, v0') ↦{fullShare} W main_v0) ∗ ((d, v1') ↦{fullShare} W main_v1)
          ∗ ((d, v2') ↦{fullShare} W main_v2) ∗ ((d, v3') ↦{fullShare} W main_v3) ∗ ((d, v4') ↦{fullShare} W main_v4)) := by
  unfold unscopedBufs
  rw [show (Finset.univ.filter fun b : Ref sig .tc => ¬ b.isScoped) = {main_arg0, main_arg1, main_c, main_call0_v0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

variable (m : (ℓ : Loc nD τ sig) → Buf (Elt F) ℓ)

/-! ## The contents, step by step -/

/-- The indices as blocks of two rows of 128 words. -/
def fxOf (d : Dev nD) : S6400x128.Idx → BitVec 32 := shapeCast S6400x128 (m (d, a0') : S4096x200.Idx → BitVec 32) shapeCasts_S4096x200_S6400x128
/-- The table padded to 128 columns. -/
def fTOf (d : Dev nD) : S1000000x128.Idx → Elt F .f32 :=
  pad S1000000x128 ![0, 0] ![0, 64] ![0, 0] (m (d, a1') : S1000000x64.Idx → Elt F .f32) (sitofp .f32 (constantI S_ 32 0#32))
    pads_S1000000x64_S1000000x128_000_0640 h_S_

/-- What the proof asks of the launch memory: every index is a row of the table. -/
abbrev PreOK : Prop := ∀ d y, (fxOf m d y).toNat < 1000000

def V0 (d : Dev nD) : Valuation τ sig (Elt F) := fun b => m (d, b)
def V1 (d : Dev nD) : Valuation τ sig (Elt F) := (opC (F := F)).result (V0 m d)
def V2 (d : Dev nD) : Valuation τ sig (Elt F) := (opF (F := F)).result (V1 m d)
def V3 (d : Dev nD) : Valuation τ sig (Elt F) := (opP (F := F)).result (V2 m d)
def V4 (d : Dev nD) : Valuation τ sig (Elt F) := (opR (F := F)).result (V3 m d)

theorem unscoped_held (d : Dev nD) : (unscopedBufs d (fun b => m ((SparseCore.T d).loc b)) : sProp 𝕄) = held (T d) S9 (V0 m d) := by
  rw [unscopedBufs_eq, held_S9]; rfl

theorem keepC (W : Valuation τ sig (Elt F)) {b : DevRef τ sig} (h : b ∉ ({c'} : Finset (DevRef τ sig))) : (opC (F := F)).result W b = W b := (opC (F := F)).result_of_not_mem W h
theorem keepF (W : Valuation τ sig (Elt F)) {b : DevRef τ sig} (h : b ∉ ({p'} : Finset (DevRef τ sig))) : (opF (F := F)).result W b = W b := (opF (F := F)).result_of_not_mem W h
theorem keepP (W : Valuation τ sig (Elt F)) {b : DevRef τ sig} (h : b ∉ ({v0'} : Finset (DevRef τ sig))) : (opP (F := F)).result W b = W b := (opP (F := F)).result_of_not_mem W h
theorem keepR (W : Valuation τ sig (Elt F)) {b : DevRef τ sig} (h : b ∉ ({v1'} : Finset (DevRef τ sig))) : (opR (F := F)).result W b = W b := (opR (F := F)).result_of_not_mem W h
theorem keepS (W : Valuation τ sig (Elt F)) {b : DevRef τ sig} (h : b ∉ ({v3'} : Finset (DevRef τ sig))) : (opS (F := F)).result W b = W b := (opS (F := F)).result_of_not_mem W h
theorem keepQ (W : Valuation τ sig (Elt F)) {b : DevRef τ sig} (h : b ∉ ({v4'} : Finset (DevRef τ sig))) : (opQ (F := F)).result W b = W b := (opQ (F := F)).result_of_not_mem W h

theorem V4_a0 (d : Dev nD) : V4 m d a0' = m (d, a0') := by
  unfold V4 V3 V2 V1; rw [keepR _ (by decide), keepP _ (by decide), keepF _ (by decide), keepC _ (by decide)]; rfl
theorem V4_a1 (d : Dev nD) : V4 m d a1' = m (d, a1') := by
  unfold V4 V3 V2 V1; rw [keepR _ (by decide), keepP _ (by decide), keepF _ (by decide), keepC _ (by decide)]; rfl
theorem V3_a0 (d : Dev nD) : V3 m d a0' = m (d, a0') := by
  unfold V3 V2 V1; rw [keepP _ (by decide), keepF _ (by decide), keepC _ (by decide)]; rfl
theorem V2_a1 (d : Dev nD) : V2 m d a1' = m (d, a1') := by
  unfold V2 V1; rw [keepF _ (by decide), keepC _ (by decide)]; rfl
theorem V1_c (d : Dev nD) : V1 m d c' = constantI S_ 32 0#32 := StableHlo.nullary_result _ _ _ _
theorem opF_eq : opF (F := F) = StableHlo.unary main_c main_call0_v0
    (sitofp .f32 : (⟨S_, .i32⟩ : BufTy).Contents (Elt F) → (⟨S_, .f32⟩ : BufTy).Contents (Elt F)) := rfl
theorem opP_eq : opP (F := F) = StableHlo.binary main_arg1 main_call0_v0 main_v0
    ((fun x v => pad S1000000x128 ![0, 0] ![0, 64] ![0, 0] x v pads_S1000000x64_S1000000x128_000_0640 h_S_) :
      (⟨S1000000x64, .f32⟩ : BufTy).Contents (Elt F) → (⟨S_, .f32⟩ : BufTy).Contents (Elt F) → (⟨S1000000x128, .f32⟩ : BufTy).Contents (Elt F)) := rfl
theorem V2_p (d : Dev nD) : V2 m d p' = sitofp .f32 (constantI S_ 32 0#32) := by
  unfold V2; rw [opF_eq, StableHlo.unary_result, V1_c]
theorem V3_v0 (d : Dev nD) : V3 m d v0' = fTOf m d := by
  unfold V3; rw [opP_eq, StableHlo.binary_result, V2_a1, V2_p]; rfl
theorem V4_v0 (d : Dev nD) : V4 m d v0' = fTOf m d := (keepR _ (by decide)).trans (V3_v0 m d)
theorem V4_v1 (d : Dev nD) : V4 m d v1' = fxOf m d :=
  (StableHlo.reshape_result main_arg0 main_v1 (rfl : (.i32 : EltTy) = .i32) shapeCasts_S4096x200_S6400x128 _ _ (V3 m d)).trans (by rw [V3_a0]; rfl)

variable (hx : PreOK m)

/-- What the call leaves in the output. -/
abbrev outOf (d : Dev nD) : S819200x128.Idx → Elt F .f32 := tgt (fxOf m d) (fTOf m d) (hx d)
/-- The program's result. -/
def resOf (d : Dev nD) : S4096x200x64.Idx → Elt F .f32 :=
  shapeCast S4096x200x64 (extractStridedSlice S819200x64 ![0, 0] (outOf m hx d) slices_S819200x128_S819200x64_0_0) shapeCasts_S819200x64_S4096x200x64

def V5 (d : Dev nD) : Valuation τ sig (Elt F) := Function.update (V4 m d) v2' (outOf m hx d)
def V6 (d : Dev nD) : Valuation τ sig (Elt F) := (opS (F := F)).result (V5 m hx d)
def V7 (d : Dev nD) : Valuation τ sig (Elt F) := (opQ (F := F)).result (V6 m hx d)

theorem V5_v2 (d : Dev nD) : V5 m hx d v2' = outOf m hx d := Function.update_self _ _ _
theorem V5_ne (d : Dev nD) {b : DevRef τ sig} (h : b ≠ v2') : V5 m hx d b = V4 m d b := Function.update_of_ne h _ _
theorem V7_a0 (d : Dev nD) : V7 m hx d a0' = m (d, a0') := by
  unfold V7 V6; rw [keepQ _ (by decide), keepS _ (by decide), V5_ne m hx d (by decide), V4_a0]
theorem V7_a1 (d : Dev nD) : V7 m hx d a1' = m (d, a1') := by
  unfold V7 V6; rw [keepQ _ (by decide), keepS _ (by decide), V5_ne m hx d (by decide), V4_a1]
theorem V6_v3 (d : Dev nD) : V6 m hx d v3' = extractStridedSlice S819200x64 ![0, 0] (outOf m hx d) slices_S819200x128_S819200x64_0_0 :=
  (StableHlo.unary_result main_v2 main_v3 _ _ _ (V5 m hx d)).trans (by rw [V5_v2])
theorem V7_v4 (d : Dev nD) : V7 m hx d v4' = resOf m hx d :=
  (StableHlo.reshape_result main_v3 main_v4 (rfl : (.f32 : EltTy) = .f32) shapeCasts_S819200x64_S4096x200x64 _ _ (V6 m hx d)).trans (by rw [V6_v3]; rfl)

/-! ## The program on the TensorCore -/

abbrev PP : (K (F := F)).Pay (nD := nD) (Val := Elt F) (Name := ℕ) (U := UU) := P (fxOf m) (fTOf m) hx (fun d => V4 m d v2')

/-- What the program leaves: the arguments as they were, the result. -/
abbrev FIN (d : Dev nD) : sProp 𝕄 :=
  iprop(((d, a0') ↦{fullShare} m (d, a0')) ∗ ((d, a1') ↦{fullShare} m (d, a1')) ∗ (d, v4') ↦{fullShare} (resOf m hx d : Buf (Elt F) (d, v4')))

variable (ρ : Dev nD → PrngReg)

theorem held_V4 (d : Dev nD) :
    (held (T d) S9 (V4 m d) : sProp 𝕄)
      = iprop(((d, a0') ↦{fullShare} m (d, a0')) ∗ ((d, a1') ↦{fullShare} m (d, a1')) ∗ ((d, c') ↦{fullShare} V4 m d c') ∗ ((d, p') ↦{fullShare} V4 m d p')
          ∗ (tL d ↦{fullShare} (fTOf m d : Buf (Elt F) (tL d))) ∗ (xL d ↦{fullShare} (fxOf m d : Buf (Elt F) (xL d)))
          ∗ (oL d ↦{fullShare} (V4 m d v2' : Buf (Elt F) (oL d))) ∗ ((d, v3') ↦{fullShare} V4 m d v3') ∗ ((d, v4') ↦{fullShare} V4 m d v4')) := by
  rw [held_S9, V4_a0, V4_a1, V4_v0, V4_v1]
theorem held_V5 (d : Dev nD) :
    (held (T d) S9 (V5 m hx d) : sProp 𝕄)
      = iprop(((d, a0') ↦{fullShare} m (d, a0')) ∗ ((d, a1') ↦{fullShare} m (d, a1')) ∗ ((d, c') ↦{fullShare} V4 m d c') ∗ ((d, p') ↦{fullShare} V4 m d p')
          ∗ (tL d ↦{fullShare} (fTOf m d : Buf (Elt F) (tL d))) ∗ (xL d ↦{fullShare} (fxOf m d : Buf (Elt F) (xL d)))
          ∗ (oL d ↦{fullShare} (outOf m hx d : Buf (Elt F) (oL d))) ∗ ((d, v3') ↦{fullShare} V4 m d v3') ∗ ((d, v4') ↦{fullShare} V4 m d v4')) := by
  rw [held_S9, V5_v2, V5_ne m hx d (show a0' ≠ v2' by decide), V5_ne m hx d (show a1' ≠ v2' by decide), V5_ne m hx d (show c' ≠ v2' by decide),
    V5_ne m hx d (show p' ≠ v2' by decide), V5_ne m hx d (show v0' ≠ v2' by decide), V5_ne m hx d (show v1' ≠ v2' by decide),
    V5_ne m hx d (show v3' ≠ v2' by decide), V5_ne m hx d (show v4' ≠ v2' by decide), V4_a0, V4_a1, V4_v0, V4_v1]
theorem held_V7 (d : Dev nD) :
    (held (T d) S9 (V7 m hx d) : sProp 𝕄)
      = iprop(((d, a0') ↦{fullShare} m (d, a0')) ∗ ((d, a1') ↦{fullShare} m (d, a1')) ∗ ((d, c') ↦{fullShare} V7 m hx d c') ∗ ((d, p') ↦{fullShare} V7 m hx d p')
          ∗ ((d, v0') ↦{fullShare} V7 m hx d v0') ∗ ((d, v1') ↦{fullShare} V7 m hx d v1')
          ∗ ((d, v2') ↦{fullShare} V7 m hx d v2') ∗ ((d, v3') ↦{fullShare} V7 m hx d v3') ∗ (d, v4') ↦{fullShare} (resOf m hx d : Buf (Elt F) (d, v4'))) := by
  rw [held_S9, V7_a0, V7_a1, V7_v4]

set_option maxRecDepth 8192 in
/-- The program on device `d`'s TensorCore: four operations, the call, two operations. -/
theorem hmain (κ : GSem nD τ sig → ℕ) (d : Dev nD) :
    iprop((K (F := F)).ctx EH (PP m hx) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hx d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opC) (S := S9) hC (V := V0 m d)) $$ [Hb Hheld]
  · isplitl [Hb] <;> iassumption
  iintro ⟨Hb, Hheld⟩
  rw [wp_ret]; imodintro
  iapply (wp_hlo_within 𝒱 (SparseCore.T d) none Set.univ (op := opF) (S := S9) hF' (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opP) (S := S9) hP (V := V2 m d)) $$ [Hb Hheld]
  · isplitl [Hb]; · iexact Hb
    iexact Hheld
  iintro ⟨Hb, Hheld⟩
  rw [wp_ret]; imodintro
  try imodintro
  iapply (wp_hlo_within 𝒱 (SparseCore.T d) none Set.univ (op := opR) (S := S9) hR (V := V3 m d)) $$ [Hb Hheld]
  · isplitl [Hb]; · iexact Hb
    iexact Hheld
  iintro ⟨Hb, Hheld⟩
  rw [wp_ret]; imodintro
  ihave Hh := (show held (T d) S9 ((opR (F := F)).result (V3 m d)) ⊢ _ from Entails.of_eq (held_V4 (F := F) m d)) $$ Hheld
  icases Hh with ⟨Ha0, Ha1, Hc, Hp, Ht, Hx, Ho, Hv3, Hv4⟩
  iapply ((K (F := F)).wp_run (D (F := F)) 𝒱 (EH := EH) (P := PP m hx) κ d 0) $$ [Hst Ha0 Ha1 Hc Hp Ht Hx Ho Hv3 Hv4 Hb Hts]
  isplitr; · iexact Hctx
  isplitl [Hst]; · iexact Hst
  isplitl [Ht Hx Ho]
  · rw [st_eq]
    isplitl [Hx]; · iexact Hx
    isplitl [Ht]; · iexact Ht
    iexact Ho
  iintro ⟨Hst, Hdn⟩
  ihave Hdn' := (Entails.of_eq (dn_eq (fxOf m) (fTOf m) hx (fun d => V4 m d v2') d)) $$ Hdn
  icases Hdn' with ⟨Hx, Ht, Ho⟩
  iapply (wp_hlo_within 𝒱 (SparseCore.T d) none Set.univ (op := opS) (S := S9) hS (V := V5 m hx d)) $$ [Hb Ha0 Ha1 Hc Hp Ht Hx Ho Hv3 Hv4]
  · isplitl [Hb]; · iexact Hb
    rw [held_V5]
    isplitl [Ha0]; · iexact Ha0
    isplitl [Ha1]; · iexact Ha1
    isplitl [Hc]; · iexact Hc
    isplitl [Hp]; · iexact Hp
    isplitl [Ht]; · iexact Ht
    isplitl [Hx]; · iexact Hx
    isplitl [Ho]; · iexact Ho
    isplitl [Hv3]; · iexact Hv3
    iexact Hv4
  iintro ⟨Hb, Hheld⟩
  rw [wp_ret]; imodintro
  iapply (wp_hlo_within 𝒱 (SparseCore.T d) none Set.univ (op := opQ) (S := S9) hQ' (V := V6 m hx d)) $$ [Hb Hheld]
  · isplitl [Hb]; · iexact Hb
    iexact Hheld
  iintro ⟨Hb, Hheld⟩
  ihave Hh := (show held (T d) S9 ((opQ (F := F)).result (V6 m hx d)) ⊢ _ from Entails.of_eq (held_V7 (F := F) m hx d)) $$ Hheld
  icases Hh with ⟨Ha0, Ha1, -, -, -, -, -, -, Hv4⟩
  rw [wp_ret]; imodintro; imodintro
  isplitl [Hst]; · iexact Hst
  isplitr [Hb Hts]
  · isplitl [Ha0]; · iexact Ha0
    isplitl [Ha1]; · iexact Ha1
    iexact Hv4
  isplitl [Hb] <;> iassumption

/-! ## The run -/

/-- What the claims read of device `d`'s final state. -/
def fq (d : Dev nD) (s' : Phys nD τ sig (Elt F)) : Prop :=
  s'.mem.mem (d, v4') = resOf m hx d ∧ s'.mem.mem (d, a0') = m (d, a0') ∧ s'.mem.mem (d, a1') = m (d, a1')

theorem hfin (d : Dev nD) (s' : Phys nD τ sig (Elt F)) : iprop(FIN m hx d ∗ SI s') ⊢ (⌜fq m hx d s'⌝ : sProp 𝕄) := by
  iintro ⟨⟨H0, H1, H4⟩, HSI⟩
  ihave H := (persistent_entails_right (SI_pointsTo_agree (st := s') (ℓ := (d, a0')) (I := Finset.univ) (q := fullShare) (f := m (d, a0')))) $$ [HSI H0]
  · isplitl [HSI] <;> iassumption
  icases H with ⟨%h0, HSI, -⟩
  ihave H := (persistent_entails_right (SI_pointsTo_agree (st := s') (ℓ := (d, a1')) (I := Finset.univ) (q := fullShare) (f := m (d, a1')))) $$ [HSI H1]
  · isplitl [HSI] <;> iassumption
  icases H with ⟨%h1, HSI, -⟩
  ihave H := (SI_pointsTo_agree (st := s') (ℓ := (d, v4')) (I := Finset.univ) (q := fullShare) (f := resOf m hx d)) $$ [HSI H4]
  · isplitl [HSI] <;> iassumption
  icases H with %h4
  ipureintro
  exact ⟨funext fun i => h4 i (Finset.mem_univ i), funext fun i => h0 i (Finset.mem_univ i), funext fun i => h1 i (Finset.mem_univ i)⟩

/-- What the run ends in: the result on every device, the arguments as they were, every counter at zero. -/
def QC : PUnit × MemSt nD τ sig (Elt F) → Prop := fun r =>
  (∀ c : Dev nD, r.2.mem (c.tc.loc main_v4) = resOf m hx c ∧ r.2.mem (c.tc.loc main_arg0) = m (c.tc.loc main_arg0)
    ∧ r.2.mem (c.tc.loc main_arg1) = m (c.tc.loc main_arg1)) ∧ r.2.sem = fun _ => 0

/-- The whole program's run, from a launch memory whose indices are in range. -/
theorem run_main [∀ e, Nonempty (Elt F e)] :
    θ_run (Cert.KernelIdeal.defs (F := F)) (Cert.KernelIdeal.threads (F := F)) ⟨m, fun _ => 0, ρ⟩ (QC m hx) :=
  SparseCore.Cfg.θ_run_sc_quiescent (K := K (F := F)) (D := D (F := F)) (𝒱 := 𝒱) (EH := EH) (P := PP m hx) (A := ∅) facts v₀
    (fun q hq => match q with | 0 => nomatch hq)
    (fun q _ => match q with | 0 => tileObl (fxOf m) (fTOf m) hx (fun d => V4 m d v2') facts)
    (fun q _ => match q with | 0 => SparseCore.Cfg.VecSplit.of_plain (vecSplit (fxOf m) (fTOf m) hx (fun d => V4 m d v2')))
    m ρ main (fun _ => iprop(emp)) (FIN m hx) (u₀ (F := F)) (sep_elim_left.trans (hu₀ (fxOf m) (fTOf m) hx (fun d => V4 m d v2')))
    (hmain m hx ρ) (fq m hx) (hfin m hx) (QC m hx) (fun _ h hz => ⟨h, hz⟩)

end Cert.Proof.Tile

end
-- ==== Proof.Value.lean ====
/-
  What the two programs compute, read at an index: both are the rows of the table that the indices name, for any float
  values. The precondition, read back, says that every index is a row of the table.
-/
module

public import proofs.«01_k».proof.Proof.Main
public import proofs.«01_k».proof.Proof.Gen.ReferenceIdeal
public import proofs.«01_k».proof.Proof.Gen.Pre_in_vocab
public import Idealize.ShloMosaic.Lib.ReduceAll
public import Idealize.ShloMosaic.Lib.KernelVsHost
public import Idealize.ShloMosaic.Lib.Pipeline.Value

@[expose] public section

noncomputable section

namespace Cert.Proof.Value

open Cert.ReferenceIdeal Cert.ReferenceIdeal.Facts₀
open Idealize.ShloMosaic
open Idealize.ShloMosaic.ValueIdx

variable {F : FTy → Type} [FloatOps F]

/-- The looked-up rows: entry `(b, s, l)` is lane `l` of the table's row named by index `(b, s)`. -/
def look (x : IVec S4096x200 32) (T : FVec F S1000000x64 .f32) (hx : ∀ i, (x i).toNat < 1000000) : S4096x200x64.Idx → Elt F .f32 :=
  fun y => T (ix2 ⟨(x (ix2 (y 0) (y 1))).toNat, hx _⟩ (y 2))

/-! ## Words -/

/-- A word below a million is not negative. -/
theorem word_not_neg {w : BitVec 32} (h : w.toNat < 1000000) : IntOp.cmpi .slt w 0#32 = 0#1 := by
  refine ValueIdx.eq_zero_of_ne_one fun hh => ?_
  have hn := IntOp.cmpi_slt.1 hh
  rw [BitVec.toInt_eq_toNat_cond] at hn
  simp at hn
  split at hn <;> omega

/-- A word below a million is at least zero. -/
theorem word_ge {w : BitVec 32} (h : w.toNat < 1000000) : IntOp.cmpi .sge w 0#32 = 1#1 := by
  refine IntOp.cmpi_sge.2 ?_
  rw [BitVec.toInt_eq_toNat_cond w]
  simp
  split <;> omega

/-- A word below a million is at most the last row's number. -/
theorem word_le {w : BitVec 32} (h : w.toNat < 1000000) : IntOp.cmpi .sle w 999999#32 = 1#1 := by
  refine IntOp.cmpi_sle.2 ?_
  rw [BitVec.toInt_eq_toNat_cond w]
  simp
  split <;> omega

/-- A word that is at least zero and less than a million, both read signed, is below a million read unsigned. -/
theorem word_lt {w : BitVec 32} (h0 : IntOp.cmpi .sge w 0#32 = 1#1) (h1 : IntOp.cmpi .slt w 1000000#32 = 1#1) : w.toNat < 1000000 := by
  have a := IntOp.cmpi_sge.1 h0
  have b := IntOp.cmpi_slt.1 h1
  have hw := w.isLt
  rw [BitVec.toInt_eq_toNat_cond w] at a b
  simp at a b
  split at a <;> omega

/-- Read signed, a word below a million is the natural it is read unsigned. -/
theorem word_toInt {w : BitVec 32} (h : w.toNat < 1000000) : w.toInt.toNat = w.toNat := by
  rw [BitVec.toInt_eq_toNat_cond]
  split <;> omega

/-! ## The precondition, read back -/

instance : Subsingleton Cert.Pre_in_vocab.S_.Idx := ⟨fun a b => funext fun i => i.elim0⟩

/-- Where the precondition holds, every index is a row of the table. -/
theorem in_rows (x : IVec S4096x200 32) (T : FVec F S1000000x64 .f32) (h : Cert.Pre_in_vocab.fn (F := F) x T = fun _ => 1#1) :
    ∀ i, (x i).toNat < 1000000 := by
  intro i
  have e := Host.reduce_andi_all _ _ _ _ ix0 (congrFun h ix0) i
  obtain ⟨e0, e1⟩ := IntOp.andi_eq_one.1 e
  exact word_lt e0 e1

/-! ## The kernel's result -/

variable (m : (ℓ : Loc Cert.KernelIdeal.nD Cert.KernelIdeal.τ Cert.KernelIdeal.sig) → Buf (Elt F) ℓ)

/-- The indices and the table of device `d`. -/
abbrev xs (d : Dev Cert.KernelIdeal.nD) : IVec S4096x200 32 := m (d, Tile.a0')
abbrev tab (d : Dev Cert.KernelIdeal.nD) : FVec F S1000000x64 .f32 := m (d, Tile.a1')

/-- The laid-out indices are rows of the table where the indices are. -/
theorem pre_ok (h : ∀ d i, (xs m d i).toNat < 1000000) : Tile.PreOK m := fun d _ => h d _

/-- Row `r` of the kernel's blocks of indices is the index at row `r / 200` and column `r % 200`. -/
theorem blocks_apply (d : Dev Cert.KernelIdeal.nD) (a : Fin 6400) (b : Fin 128) (p : Fin 4096) (q : Fin 200)
    (h : p.val * 200 + q.val = a.val * 128 + b.val) : Tile.fxOf m d (ix2 a b) = xs m d (ix2 p q) := by
  unfold Tile.fxOf
  exact shapeCast_apply (s := S4096x200) _ _ _ _ (by rw [Shape.rowMajor_val_two, Shape.rowMajor_val_two]; exact h)

/-- The padded table is the table in its first 64 columns. -/
theorem padded_apply (d : Dev Cert.KernelIdeal.nD) (a : Fin 1000000) (b : Fin 128) (l : Fin 64) (h : b.val = l.val) :
    Tile.fTOf m d (ix2 a b) = tab m d (ix2 a l) := by
  unfold Tile.fTOf
  refine pad_apply_of_inside _ _ _ _ _ _ _ _ _ fun c => ?_
  match c with
  | ⟨0, _⟩ => show a.val = 0 + a.val * (0 + 1); omega
  | ⟨1, _⟩ => show b.val = 0 + l.val * (0 + 1); omega

/-- The kernel's result at an index: the table's row named by the index there. -/
theorem res_apply (hx : ∀ d i, (xs m d i).toNat < 1000000) (d : Dev Cert.KernelIdeal.nD) (a : Fin 4096) (b : Fin 200) (l : Fin 64) :
    Tile.resOf m (pre_ok m hx) d (ix3 a b l) = tab m d (ix2 ⟨(xs m d (ix2 a b)).toNat, hx d _⟩ l) := by
  have ha := a.isLt
  have hb := b.isLt
  have hl := l.isLt
  refine (shapeCast_apply _ _ (ix3 a b l) (ix2 (⟨a.val * 200 + b.val, by omega⟩ : Fin 819200) l)
    (by rw [Shape.rowMajor_val_three, Shape.rowMajor_val_two]; rfl)).trans ?_
  have hr := blocks_apply m d (⟨(a.val * 200 + b.val) / 128, by omega⟩ : Fin 6400) (⟨(a.val * 200 + b.val) % 128, by omega⟩ : Fin 128) a b
    (by show a.val * 200 + b.val = (a.val * 200 + b.val) / 128 * 128 + (a.val * 200 + b.val) % 128; omega)
  refine Eq.trans ?_ (padded_apply m d ⟨(xs m d (ix2 a b)).toNat, hx d _⟩ ⟨l.val, by omega⟩ l rfl)
  refine congrArg (Tile.fTOf m d) (funext fun c => Fin.ext ?_)
  match c with
  | ⟨0, _⟩ =>
    refine Eq.trans (congrArg (fun j => (Tile.fxOf m d j).toNat) (funext fun e => Fin.ext ?_)) (congrArg BitVec.toNat hr)
    match e with
    | ⟨0, _⟩ => show (0 + (a.val * 200 + b.val)) / 128 = (a.val * 200 + b.val) / 128; rw [Nat.zero_add]
    | ⟨1, _⟩ => show (0 + (a.val * 200 + b.val)) % 128 = (a.val * 200 + b.val) % 128; rw [Nat.zero_add]
  | ⟨1, _⟩ => show 0 + l.val = l.val; omega

/-- The kernel's result is the looked-up rows. -/
theorem res_eq (hx : ∀ d i, (xs m d i).toNat < 1000000) (d : Dev Cert.KernelIdeal.nD) :
    Tile.resOf m (pre_ok m hx) d = look (xs m d) (tab m d) (hx d) := by
  funext y
  obtain ⟨a, b, l, rfl⟩ : ∃ (a : Fin 4096) (b : Fin 200) (l : Fin 64), y = ix3 a b l := ⟨y 0, y 1, y 2, eq_ix3 y⟩
  exact res_apply m hx d a b l

/-! ## The reference's result -/

/-- The start index of entry `(a, b)` in the gather's index array. -/
theorem start_at (idx : IVec S4096x200x1 32) (a : Fin 4096) (b : Fin 200) (l : Fin 64) :
    gather_S1000000x64_S4096x200x1_S4096x200x64_2_0_n_n_0_2_164.start (ix3 a b l) idx (0 : Fin 2)
      = min (idx (ix3 a b (0 : Fin 1))).toInt.toNat 999999 := by
  unfold GatherDims.start
  refine (dif_pos (show (0 : Fin 2) ∈ [(0 : Fin 2)] from List.mem_singleton.mpr rfl)).trans ?_
  refine congrArg (fun j => min (idx j).toInt.toNat 999999) (funext fun c => Fin.ext ?_)
  match c with
  | ⟨0, _⟩ => rfl
  | ⟨1, _⟩ => rfl
  | ⟨2, _⟩ => rfl

/-- The reference's gather at an index: the row named by the start index, clamped, at the same lane. -/
theorem gather_row (T : FVec F S1000000x64 .f32) (idx : IVec S4096x200x1 32) (a : Fin 4096) (b : Fin 200) (l : Fin 64) :
    Host.gather gather_S1000000x64_S4096x200x1_S4096x200x64_2_0_n_n_0_2_164 T idx (ix3 a b l)
      = T (ix2 ⟨min (idx (ix3 a b (0 : Fin 1))).toInt.toNat 999999, by omega⟩ l) := by
  unfold Host.gather
  refine congrArg T (funext fun c => Fin.ext ?_)
  show GatherDims.start _ (ix3 a b l) idx c + GatherDims.batchCoord _ (ix3 a b l) c + GatherDims.offCoord _ (ix3 a b l) c = _
  have hc : c = (0 : Fin 2) ∨ c = (1 : Fin 2) := by
    match c with
    | ⟨0, _⟩ => exact Or.inl rfl
    | ⟨1, _⟩ => exact Or.inr rfl
  rcases hc with rfl | rfl
  · rw [GatherDims.batchCoord_eq_zero _ _ _ List.not_mem_nil,
      GatherDims.offCoord_eq_zero _ _ _ fun h => ((GatherDims.mem_sKept _ _).mp h).1 (List.mem_singleton.mpr rfl), start_at]
    rfl
  · rw [GatherDims.batchCoord_eq_zero _ _ _ List.not_mem_nil]
    have hs : gather_S1000000x64_S4096x200x1_S4096x200x64_2_0_n_n_0_2_164.start (ix3 a b l) idx (1 : Fin 2) = 0 := by
      unfold GatherDims.start
      exact dif_neg (show (1 : Fin 2) ∉ [(0 : Fin 2)] by decide)
    have ho : gather_S1000000x64_S4096x200x1_S4096x200x64_2_0_n_n_0_2_164.offCoord (ix3 a b l) (1 : Fin 2) = l.val := by
      unfold GatherDims.offCoord
      exact (dif_pos ((GatherDims.mem_sKept _ _).2 ⟨show (1 : Fin 2) ∉ [(0 : Fin 2)] by decide, List.not_mem_nil⟩)).trans rfl
    rw [hs, ho]
    exact Nat.zero_add _

/-- The indices as the reference's gather takes them: a negative one counted from the end. -/
def wrap (x : IVec S4096x200 32) : IVec S4096x200x1 32 :=
  broadcastInDim S4096x200x1 ![0, 1] bcast_S4096x200_S4096x200x1_0_1 (select (cmpi .slt x (broadcastInDim S4096x200 ![] bcast_S_S4096x200 (constantI S_ 32 0#32)))
    (addi x (broadcastInDim S4096x200 ![] bcast_S_S4096x200 (constantI S_ 32 1000000#32))) x)

/-- Indices that are rows of the table are taken as they are. -/
theorem wrap_apply (x : IVec S4096x200 32) (hx : ∀ i, (x i).toNat < 1000000) (a : Fin 4096) (b : Fin 200) (c : Fin 1) :
    wrap x (ix3 a b c) = x (ix2 a b) := by
  unfold wrap
  refine (broadcastInDim_apply _ _ _ (ix3 a b c) (ix2 a b) (fun e => by
    match e with
    | ⟨0, _⟩ => rfl
    | ⟨1, _⟩ => rfl)).trans ?_
  show Scalar.select (IntOp.cmpi .slt (x (ix2 a b)) 0#32) _ _ = _
  rw [word_not_neg (hx _)]
  exact ValueIdx.select_zero _ _

/-- Whether each index, as taken, is a row of the table. -/
def valid (x : IVec S4096x200 32) : IVec S4096x200 1 :=
  Host.reduce IntOp.andi
    (andi (cmpi .sge (wrap x) (broadcastInDim S4096x200x1 ![] bcast_S_S4096x200x1 (constantI S_ 32 0#32)))
      (cmpi .sle (wrap x) (broadcastInDim S4096x200x1 ![0, 1, 2] bcast_S1x1x1_S4096x200x1_0_1_2 (broadcastInDim S1x1x1 ![2] bcast_S1_S1x1x1_2 (constantI S1 32 999999#32)))))
    (constantI S_ 1 1#1) reducesTo_S4096x200x1_S4096x200_d2 h_S_

/-- Where every index is a row of the table, the reference finds it so. -/
theorem valid_apply (x : IVec S4096x200 32) (hx : ∀ i, (x i).toNat < 1000000) (j : S4096x200.Idx) : valid x j = 1#1 := by
  unfold valid
  refine Host.reduce_andi_one _ _ _ _ _ rfl fun i => ?_
  obtain ⟨a, b, c, rfl⟩ : ∃ (a : Fin 4096) (b : Fin 200) (c : Fin 1), i = ix3 a b c := ⟨i 0, i 1, i 2, eq_ix3 i⟩
  refine IntOp.andi_eq_one.2 ⟨?_, ?_⟩
  · show IntOp.cmpi .sge (wrap x (ix3 a b c)) 0#32 = 1#1
    rw [wrap_apply x hx]; exact word_ge (hx _)
  · show IntOp.cmpi .sle (wrap x (ix3 a b c)) 999999#32 = 1#1
    rw [wrap_apply x hx]; exact word_le (hx _)

/-- The reference's result from its indices and its table. -/
def taken (x : IVec S4096x200 32) (T : FVec F S1000000x64 .f32) : S4096x200x64.Idx → Elt F .f32 :=
  select (broadcastInDim S4096x200x64 ![0, 1] bcast_S4096x200_S4096x200x64_0_1 (valid x))
    (Host.gather gather_S1000000x64_S4096x200x1_S4096x200x64_2_0_n_n_0_2_164 T (wrap x))
    (broadcastInDim S4096x200x64 ![] bcast_S_S4096x200x64 (constant S_ .f32 0x7FC00000#32))

/-- The reference's result is the looked-up rows. -/
theorem taken_eq (x : IVec S4096x200 32) (T : FVec F S1000000x64 .f32) (hx : ∀ i, (x i).toNat < 1000000) : taken x T = look x T hx := by
  funext y
  obtain ⟨a, b, l, rfl⟩ : ∃ (a : Fin 4096) (b : Fin 200) (l : Fin 64), y = ix3 a b l := ⟨y 0, y 1, y 2, eq_ix3 y⟩
  unfold taken
  have hv : broadcastInDim S4096x200x64 ![0, 1] bcast_S4096x200_S4096x200x64_0_1 (valid x) (ix3 a b l) = 1#1 := valid_apply x hx _
  show Scalar.select (broadcastInDim S4096x200x64 ![0, 1] bcast_S4096x200_S4096x200x64_0_1 (valid x) (ix3 a b l))
    (Host.gather gather_S1000000x64_S4096x200x1_S4096x200x64_2_0_n_n_0_2_164 T (wrap x) (ix3 a b l)) _ = _
  rw [hv, ValueIdx.select_one, gather_row]
  refine congrArg T (funext fun c => Fin.ext ?_)
  match c with
  | ⟨0, _⟩ =>
    show min (wrap x (ix3 a b (0 : Fin 1))).toInt.toNat 999999 = (x (ix2 a b)).toNat
    rw [wrap_apply x hx, word_toInt (hx _)]
    have := hx (ix2 a b)
    omega
  | ⟨1, _⟩ => rfl

end Cert.Proof.Value

end
-- ==== Proof.lean ====
/-
  The claims of the certificate, from three runs: the kernel's (`Tile.run_main`, proved once for any float values), read at
  the bit values for `Kernel` and at the extended reals for `KernelIdeal`, and the two references', which are straight
  lines of array operations. What the runs leave is compared in `Proof/Value.lean`: the rows of the table the indices name.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Gen.Pre_in_vocab
public import proofs.«01_k».proof.Proof.Value
public import Idealize.ShloMosaic.Adequacy
public import Idealize.ShloMosaic.Init

@[expose] public section

noncomputable section

namespace Cert.Proof

open Idealize.ShloMosaic Idealize.SL.Sem Cert.Kernel

instance nonempty_ideal (e : EltTy) : Nonempty (Elt Ideal e) := by cases e <;> exact ⟨default⟩
instance nonempty_bits (e : EltTy) : Nonempty (Elt Bits e) := by cases e <;> exact ⟨default⟩

/-- Under the precondition every index the idealized kernel is given is a row of the table. -/
theorem rows_ideal {m : (ℓ : Loc Cert.KernelIdeal.nD Cert.KernelIdeal.τ Cert.KernelIdeal.sig) → Buf (Elt Ideal) ℓ}
    (h : Cert.Pre_KernelIdeal m) (d : Dev Cert.KernelIdeal.nD) : ∀ i, (Value.xs (F := Ideal) m d i).toNat < 1000000 :=
  Value.in_rows (F := Ideal) _ _ (h d)

/-- Under the precondition every index the kernel is given is a row of the table. -/
theorem rows_bits {m : (ℓ : Loc Cert.Kernel.nD Cert.Kernel.τ Cert.Kernel.sig) → Buf (Elt Bits) ℓ}
    (h : Cert.Pre_Kernel m) (d : Dev Cert.KernelIdeal.nD) : ∀ i, (Value.xs (F := Bits) m d i).toNat < 1000000 :=
  Value.in_rows (F := Bits) _ _ (h d)

/-- The kernel runs, leaves its arguments and every semaphore as it found them. -/
theorem frame_kernel : Cert.quiescent_Kernel := fun m ρ h =>
  (θ_run Cert.KernelIdeal.defs _ _).mono (fun _ h => ⟨fun c => (h.1 c).2, h.2⟩)
    (Tile.run_main (F := Bits) m (Value.pre_ok m (rows_bits h)) ρ)

/-- The idealized kernel runs, leaves its arguments and every semaphore as it found them. -/
theorem frame_ideal : Cert.quiescent_KernelIdeal := fun m ρ h =>
  (θ_run Cert.KernelIdeal.defs _ _).mono (fun _ h => ⟨fun c => (h.1 c).2, h.2⟩)
    (Tile.run_main (F := Ideal) m (Value.pre_ok m (rows_ideal h)) ρ)

/-- The idealized reference runs and leaves its arguments; it has no semaphore. -/
theorem frame_reference_ideal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference runs and leaves its arguments; it has no semaphore. -/
theorem frame_reference : Cert.quiescent_Reference := fun m ρ _ =>
  (θ_run Cert.Reference.defs _ _).mono (fun r h => ⟨fun c => (h c).2, Idealize.ShloMosaic.sem_eq_zero_of_no_sems (by decide) r.2⟩)
    (Cert.Reference.Value.run (F := Bits) m ρ)

/-- At the extended reals the kernel and the reference leave the same result: the rows looked up. -/
theorem algebraic : Cert.algebraic_KernelIdeal_ReferenceIdeal := by
  intro m ρ m' ρ' h hagree
  refine ⟨fun c => Value.look (F := Ideal) (Value.xs m c) (Value.tab m c) (rows_ideal h c),
    (θ_run Cert.KernelIdeal.defs _ _).mono (fun _ hr c => ⟨(hr.1 c).1.trans (Value.res_eq m (rows_ideal h) c), (hr.1 c).2⟩)
      (Tile.run_main (F := Ideal) m (Value.pre_ok m (rows_ideal h)) ρ),
    (θ_run Cert.ReferenceIdeal.defs _ _).mono (fun _ hr c => ⟨(hr c).1.trans ?_, (hr c).2⟩)
      (Cert.ReferenceIdeal.Value.run (F := Ideal) m' ρ')⟩
  refine Eq.trans ?_ (Value.taken_eq (F := Ideal) _ _ (rows_ideal h c))
  rw [(hagree c).1, (hagree c).2]
  rfl

/-- Bit for bit the kernel and the reference leave the same result: the rows looked up. -/
theorem bitexact : Cert.bitexact_Kernel_Reference := by
  intro m ρ m' ρ' h hagree
  refine ⟨fun c => Value.look (F := Bits) (Value.xs m c) (Value.tab m c) (rows_bits h c),
    (θ_run Cert.KernelIdeal.defs _ _).mono (fun _ hr c => ⟨(hr.1 c).1.trans (Value.res_eq (F := Bits) m (rows_bits h) c), (hr.1 c).2⟩)
      (Tile.run_main (F := Bits) m (Value.pre_ok m (rows_bits h)) ρ),
    (θ_run Cert.Reference.defs _ _).mono (fun _ hr c => ⟨(hr c).1.trans ?_, (hr c).2⟩)
      (Cert.Reference.Value.run (F := Bits) m' ρ')⟩
  refine Eq.trans ?_ (Value.taken_eq (F := Bits) _ _ (rows_bits h c))
  rw [(hagree c).1, (hagree c).2]
  rfl

/-- Everything the certificate claims. -/
theorem claim : Cert.Claim := ⟨Cert.Kernel.Gen.facts, Cert.KernelIdeal.Gen.facts, Cert.ReferenceIdeal.Gen.facts, Cert.Reference.Gen.facts, Cert.Pre_in_vocab.Gen.facts,
  frame_kernel, frame_ideal, frame_reference_ideal, frame_reference, trivial, algebraic, bitexact⟩

end Cert.Proof

end
